-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x128 : Shape := ⟨2, ![1000000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part1 {F : FTy → Type} [FloatOps F] (main_arg2 : IVec S16384 32) (main_v14 : IVec S_ 1) (main_c_7 : IVec S_ 32) : IVec S_ 1 :=
  let main_v15 : IVec S16384 32 := broadcastInDim S16384 ![] bcast_S_S16384 main_c_7
  let main_v16 : IVec S16384 1 := cmpi .sge main_arg2 main_v15
  let main_c_8 : IVec S_ 1 := constantI S_ 1 1#1
  let main_v17 : IVec S_ 1 := (fun x v => Host.reduce IntOp.andi x v reducesTo_S16384_S_d0 h_S_) main_v16 main_c_8
  let main_v18 : IVec S_ 1 := andi main_v14 main_v17
  let main_c_9 : IVec S_ 32 := constantI S_ 32 1000000#32
  let main_v19 : IVec S16384 32 := broadcastInDim S16384 ![] bcast_S_S16384 main_c_9
  let main_v20 : IVec S16384 1 := cmpi .slt main_arg2 main_v19
  let main_c_10 : IVec S_ 1 := constantI S_ 1 1#1
  let main_v21 : IVec S_ 1 := (fun x v => Host.reduce IntOp.andi x v reducesTo_S16384_S_d0 h_S_) main_v20 main_c_10
  let main_v22 : IVec S_ 1 := andi main_v18 main_v21
  main_v22

def fn {F : FTy → Type} [FloatOps F] (main_arg0 : IVec S16384 32) (main_arg1 : IVec S16384 32) (main_arg2 : IVec S16384 32) (main_arg3 : FVec F S1000000x128 .f32) (main_arg4 : FVec F S1000000x128 .f32) (main_arg5 : FVec F S256x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_c_7 : IVec S_ 32 := constantI S_ 32 0#32
  fn_part1 (F := F) main_arg2 main_v14 main_c_7
-- ==== Kernel.lean ====
abbrev S16384 : Shape := ⟨1, ![16384]⟩
abbrev S1000000x128 : Shape := ⟨2, ![1000000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S128x128 : Shape := ⟨2, ![128, 128]⟩
abbrev S16384x128 : Shape := ⟨2, ![16384, 128]⟩
abbrev S12x128 : Shape := ⟨2, ![12, 128]⟩
abbrev S2x128x128 : Shape := ⟨3, ![2, 128, 128]⟩
abbrev S_ : Shape := ⟨0, ![]⟩
abbrev S4x128 : Shape := ⟨2, ![4, 128]⟩
abbrev S1x128x128 : Shape := ⟨3, ![1, 128, 128]⟩
abbrev S1x128 : Shape := ⟨2, ![1, 128]⟩
abbrev S2 : Shape := ⟨1, ![2]⟩
abbrev S1x1 : Shape := ⟨2, ![1, 1]⟩
abbrev S16384x1 : Shape := ⟨2, ![16384, 1]⟩
abbrev S2048x128 : Shape := ⟨2, ![2048, 128]⟩
abbrev S2048x1 : Shape := ⟨2, ![2048, 1]⟩
abbrev S2048 : Shape := ⟨1, ![2048]⟩
abbrev S1x2048x1 : Shape := ⟨3, ![1, 2048, 1]⟩
abbrev S1x1x1 : Shape := ⟨3, ![1, 1, 1]⟩

abbrev nBuf : Table → Nat
  | .hbm => 67
  | .local .tc .vmem => 18
  | .local .tc .smem => 2
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x128, .f32⟩
  | .hbm, ⟨4, _⟩ => ⟨S1000000x128, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S_, .f32⟩
  | .hbm, ⟨23, _⟩ => ⟨S128x128, .f32⟩
  | .hbm, ⟨24, _⟩ => ⟨S_, .i32⟩
  | .hbm, ⟨25, _⟩ => ⟨S1, .i32⟩
  | .hbm, ⟨26, _⟩ => ⟨S128x128, .f32⟩
  | .hbm, ⟨27, _⟩ => ⟨S_, .f32⟩
  | .hbm, ⟨28, _⟩ => ⟨S1x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S_, .f32⟩
  | .hbm, ⟨36, _⟩ => ⟨S128x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S128x128, .f32⟩
  | .hbm, ⟨43, _⟩ => ⟨S_, .f32⟩
  | .hbm, ⟨44, _⟩ => ⟨S1x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S32, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S1x128, .f32⟩
  | .hbm, ⟨60, _⟩ => ⟨S1x1, .f32⟩
  | .hbm, ⟨61, _⟩ => ⟨S16384x1, .f32⟩
  | .hbm, ⟨62, _⟩ => ⟨S16384x1, .f32⟩
  | .hbm, ⟨63, _⟩ => ⟨S1x1, .f32⟩
  | .hbm, ⟨64, _⟩ => ⟨S16384, .f32⟩
  | .hbm, ⟨65, _⟩ => ⟨S16384, .f32⟩
  | .hbm, ⟨66, _⟩ => ⟨S_, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S128x128, .f32⟩
  | .local .tc .vmem, ⟨7, _⟩ => ⟨S128x128, .f32⟩
  | .local .tc .vmem, ⟨8, _⟩ => ⟨S1x128, .f32⟩
  | .local .tc .vmem, ⟨9, _⟩ => ⟨S128x128, .f32⟩
  | .local .tc .vmem, ⟨10, _⟩ => ⟨S1x128, .f32⟩
  | .local .tc .vmem, ⟨11, _⟩ => ⟨S128x128, .f32⟩
  | .local .tc .vmem, ⟨12, _⟩ => ⟨S1x128, .f32⟩
  | .local .tc .vmem, ⟨13, _⟩ => ⟨S1x128, .f32⟩
  | .local .tc .vmem, ⟨14, _⟩ => ⟨S2048x1, .f32⟩
  | .local .tc .vmem, ⟨15, _⟩ => ⟨S2048x1, .f32⟩
  | .local .tc .vmem, ⟨16, _⟩ => ⟨S2048x1, .f32⟩
  | .local .tc .vmem, ⟨17, _⟩ => ⟨S2048x1, .f32⟩
  | .local .tc .smem, ⟨0, _⟩ => ⟨S1x1, .f32⟩
  | .local .tc .smem, ⟨1, _⟩ => ⟨S1x1, .f32⟩
  | .local .scVector .vmem, ⟨0, _⟩ => ⟨S12x128, .i32⟩
  | .local .scVector .vmem, ⟨1, _⟩ => ⟨S2x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_c_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_v26 : Ref sig .tc := ⟨.hbm, 53, rfl⟩
abbrev main_c_10 : Ref sig .tc := ⟨.hbm, 54, rfl⟩
abbrev main_v27 : Ref sig .tc := ⟨.hbm, 55, rfl⟩
abbrev main_c_11 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32_0 : Ref sig .tc := ⟨.hbm, 61, rfl⟩
abbrev main_v32_1 : Ref sig .tc := ⟨.hbm, 62, rfl⟩
abbrev main_v32_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v0_scv : Ref sig .scVector := ⟨.hbm, 13, rfl⟩
abbrev main_v1_scv : Ref sig .scVector := ⟨.hbm, 14, rfl⟩
abbrev main_v2_scv : Ref sig .scVector := ⟨.hbm, 15, rfl⟩
abbrev main_arg3_scv : Ref sig .scVector := ⟨.hbm, 3, rfl⟩
abbrev main_arg4_scv : Ref sig .scVector := ⟨.hbm, 4, rfl⟩
abbrev main_v3_0_scv : Ref sig .scVector := ⟨.hbm, 16, rfl⟩
abbrev main_v3_1_scv : Ref sig .scVector := ⟨.hbm, 17, rfl⟩
abbrev main_v3_2_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg12_0 : Ref sig .tc := ⟨.vmem, 14, rfl⟩
abbrev cc1_stg12_1 : Ref sig .tc := ⟨.vmem, 15, rfl⟩
abbrev cc1_stg13_0 : Ref sig .tc := ⟨.vmem, 16, rfl⟩
abbrev cc1_stg13_1 : Ref sig .tc := ⟨.vmem, 17, rfl⟩
abbrev cc1_stg11_0 : Ref sig .tc := ⟨.smem, 0, rfl⟩
abbrev cc1_stg14_0 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem12_1 : DmaSem sig := 23
abbrev cc1_sem13_0 : DmaSem sig := 24
abbrev cc1_sem13_1 : DmaSem sig := 25
abbrev cc1_sem14_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_337_r0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  let c0_i32_31 : BitVec 32 := 0#32
  ![v4.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .smem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2048x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2048x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .smem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x128 : Shape := ⟨2, ![1000000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S1x128 : Shape := ⟨2, ![1, 128]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩

abbrev nBuf : Space → Nat
  | .hbm => 152
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S1000000x128, .f32⟩
  | 4 => ⟨S1000000x128, .f32⟩
  | 5 => ⟨S256x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x128, .f32⟩
  | 32 => ⟨S16384x128, .i1⟩
  | 33 => ⟨S_, .f32⟩
  | 34 => ⟨S16384x128, .f32⟩
  | 35 => ⟨S16384x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x128, .f32⟩
  | 55 => ⟨S16384x128, .i1⟩
  | 56 => ⟨S_, .f32⟩
  | 57 => ⟨S16384x128, .f32⟩
  | 58 => ⟨S16384x128, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x128, .f32⟩
  | 78 => ⟨S16384x128, .i1⟩
  | 79 => ⟨S_, .f32⟩
  | 80 => ⟨S16384x128, .f32⟩
  | 81 => ⟨S16384x128, .f32⟩
  | 82 => ⟨S16384x256, .f32⟩
  | 83 => ⟨S16384x128, .f32⟩
  | 84 => ⟨S1x128, .f32⟩
  | 85 => ⟨S16384x128, .f32⟩
  | 86 => ⟨S16384x128, .f32⟩
  | 87 => ⟨S_, .f32⟩
  | 88 => ⟨S16384x128, .f32⟩
  | 89 => ⟨S16384x128, .f32⟩
  | 90 => ⟨S16384x64, .f32⟩
  | 91 => ⟨S1x64, .f32⟩
  | 92 => ⟨S16384x64, .f32⟩
  | 93 => ⟨S16384x64, .f32⟩
  | 94 => ⟨S_, .f32⟩
  | 95 => ⟨S16384x64, .f32⟩
  | 96 => ⟨S16384x64, .f32⟩
  | 97 => ⟨S16384x32, .f32⟩
  | 98 => ⟨S1x32, .f32⟩
  | 99 => ⟨S16384x32, .f32⟩
  | 100 => ⟨S16384x32, .f32⟩
  | 101 => ⟨S_, .f32⟩
  | 102 => ⟨S16384x32, .f32⟩
  | 103 => ⟨S16384x32, .f32⟩
  | 104 => ⟨S16384x1, .f32⟩
  | 105 => ⟨S1x1, .f32⟩
  | 106 => ⟨S16384x1, .f32⟩
  | 107 => ⟨S16384x1, .f32⟩
  | 108 => ⟨S16384, .f32⟩
  | 109 => ⟨S16384x256, .f32⟩
  | 110 => ⟨S16384x128, .f32⟩
  | 111 => ⟨S1x128, .f32⟩
  | 112 => ⟨S16384x128, .f32⟩
  | 113 => ⟨S16384x128, .f32⟩
  | 114 => ⟨S_, .f32⟩
  | 115 => ⟨S16384x128, .f32⟩
  | 116 => ⟨S16384x128, .f32⟩
  | 117 => ⟨S16384x64, .f32⟩
  | 118 => ⟨S1x64, .f32⟩
  | 119 => ⟨S16384x64, .f32⟩
  | 120 => ⟨S16384x64, .f32⟩
  | 121 => ⟨S_, .f32⟩
  | 122 => ⟨S16384x64, .f32⟩
  | 123 => ⟨S16384x64, .f32⟩
  | 124 => ⟨S16384x32, .f32⟩
  | 125 => ⟨S1x32, .f32⟩
  | 126 => ⟨S16384x32, .f32⟩
  | 127 => ⟨S16384x32, .f32⟩
  | _ => ⟨S16384, .i32⟩

abbrev hbmTy0_1 (i : Nat) : BufTy := match i % 128 with
  | 0 => ⟨S_, .f32⟩
  | 1 => ⟨S16384x32, .f32⟩
  | 2 => ⟨S16384x32, .f32⟩
  | 3 => ⟨S16384x1, .f32⟩
  | 4 => ⟨S1x1, .f32⟩
  | 5 => ⟨S16384x1, .f32⟩
  | 6 => ⟨S16384x1, .f32⟩
  | 7 => ⟨S16384, .f32⟩
  | 8 => ⟨S16384, .f32⟩
  | 9 => ⟨S16384, .f32⟩
  | 10 => ⟨S16384, .f32⟩
  | 11 => ⟨S_, .f32⟩
  | 12 => ⟨S16384, .f32⟩
  | 13 => ⟨S16384, .f32⟩
  | 14 => ⟨S_, .f32⟩
  | 15 => ⟨S16384, .f32⟩
  | 16 => ⟨S16384, .f32⟩
  | 17 => ⟨S16384, .f32⟩
  | 18 => ⟨S_, .f32⟩
  | 19 => ⟨S16384, .f32⟩
  | 20 => ⟨S16384, .f32⟩
  | 21 => ⟨S_, .f32⟩
  | 22 => ⟨S_, .f32⟩
  | 23 => ⟨S_, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v2 : Ref sig .tc := ⟨.hbm, 81, rfl⟩
abbrev main_v3 : Ref sig .tc := ⟨.hbm, 82, rfl⟩
abbrev main_v4 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩
abbrev main_cst : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_cst_0 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst_1 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_cst_2 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_cst_3 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_cst_4 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_cst_5 : Ref sig .tc := ⟨.hbm, 139, rfl⟩
abbrev main_v54 : Ref sig .tc := ⟨.hbm, 140, rfl⟩
abbrev main_v55 : Ref sig .tc := ⟨.hbm, 141, rfl⟩
abbrev main_cst_6 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_cst_7 : Ref sig .tc := ⟨.hbm, 146, rfl⟩
abbrev main_v59 : Ref sig .tc := ⟨.hbm, 147, rfl⟩
abbrev main_v60 : Ref sig .tc := ⟨.hbm, 148, rfl⟩
abbrev main_cst_8 : Ref sig .tc := ⟨.hbm, 149, rfl⟩
abbrev main_v61 : Ref sig .tc := ⟨.hbm, 150, rfl⟩
abbrev main_v62 : Ref sig .tc := ⟨.hbm, 151, rfl⟩

abbrev nD : Nat := 1
abbrev τ : Topo := Topo.v7x

variable {F : FTy → Type} [FloatOps F]
-- ==== Proof.Range.lean ====
/-
  What the precondition says of the three index lists: each word, read as a natural number, names a row of the tables.
-/
module

public import proofs.«01_k».proof.Pre_in_range
public import Idealize.ShloMosaic.Lib.ReduceAll
public import Idealize.ShloMosaic.Lib.StableHlo

@[expose] public section

noncomputable section

namespace Cert.Proof.Range

open Idealize.ShloMosaic Cert.Pre_in_range

variable [Facts] {F : FTy → Type} [FloatOps F]

instance : Subsingleton (Shape.Idx S_) := ⟨fun a b => funext fun i => i.elim0⟩

/-- A word that is at least 0 and below 1000000, signed, is below 1000000 as a natural number. -/
theorem row_word (v : BitVec 32) (h0 : IntOp.cmpi .sge v 0#32 = 1#1) (h1 : IntOp.cmpi .slt v 1000000#32 = 1#1) : v.toNat < 1000000 := by
  have one (p : Bool) : BitVec.ofBool p = 1#1 ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

/-- `and` of two bits is one exactly when both are. -/
theorem both_bits (a b : BitVec 1) (h : IntOp.andi a b = 1#1) : a = 1#1 ∧ b = 1#1 := by
  revert a b; decide

/-- The three lists are in range where the precondition holds. -/
theorem lists_in_range (u p n : IVec S16384 32) (a3 : FVec F S1000000x128 .f32) (a4 : FVec F S1000000x128 .f32) (a5 : FVec F S256x128 .f32)
    (a6 : FVec F S128 .f32) (a7 : FVec F S128x64 .f32) (a8 : FVec F S64 .f32) (a9 : FVec F S64x32 .f32) (a10 : FVec F S32 .f32)
    (a11 : FVec F S32x1 .f32) (a12 : FVec F S1 .f32) (h : fn u p n a3 a4 a5 a6 a7 a8 a9 a10 a11 a12 = fun _ => 1#1) :
    (∀ i, (u i).toNat < 1000000) ∧ (∀ i, (p i).toNat < 1000000) ∧ ∀ i, (n i).toNat < 1000000 := by
  have e := congrFun h (fun k => k.elim0)
  unfold fn fn_part1 at e
  obtain ⟨e, n1⟩ := both_bits _ _ e
  obtain ⟨e, n0⟩ := both_bits _ _ e
  obtain ⟨e, p1⟩ := both_bits _ _ e
  obtain ⟨e, p0⟩ := both_bits _ _ e
  obtain ⟨u0, u1⟩ := both_bits _ _ e
  exact ⟨fun i => row_word _ (Host.reduce_andi_all _ _ _ _ _ u0 i) (Host.reduce_andi_all _ _ _ _ _ u1 i),
    fun i => row_word _ (Host.reduce_andi_all _ _ _ _ _ p0 i) (Host.reduce_andi_all _ _ _ _ _ p1 i),
    fun i => row_word _ (Host.reduce_andi_all _ _ _ _ _ n0 i) (Host.reduce_andi_all _ _ _ _ _ n1 i)⟩

end Cert.Proof.Range

end
-- ==== Proof.TileI.lean ====
/-
  One tile's task of the SparseCore kernel. A tile fetches its 4 rows of each of the three id lists into its index
  scratch (rows 0–3 the user ids, 4–7 the positive items', 8–11 the negative items'), then makes twelve tasks of 128
  rows each: gather the table's rows at one scratch row's ids into one of two slots of the row scratch, and write the
  slot out to its block of the output. The two slots alternate, so two gathers of one table are in flight at once:
  the table is held as two read tokens. Here: the program as the launch theorem sees it, the windows the body addresses,
  and the body's run, the outputs' blocks left at the looked-up rows (`look`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev ℓr (d : Dev nD) (b : Ref sig .tc) : Loc nD τ sig := (SparseCore.T d).loc b

abbrev uI : Memref sig Kind.scVector Space.hbm S128x128 EltTy.i32 := Memref.whole main_v0_scv
abbrev pI : Memref sig Kind.scVector Space.hbm S128x128 EltTy.i32 := Memref.whole main_v1_scv
abbrev nI : Memref sig Kind.scVector Space.hbm S128x128 EltTy.i32 := Memref.whole main_v2_scv
abbrev uT : Memref sig Kind.scVector Space.hbm S1000000x128 EltTy.f32 := Memref.whole main_arg3_scv
abbrev iT : Memref sig Kind.scVector Space.hbm S1000000x128 EltTy.f32 := Memref.whole main_arg4_scv
abbrev uO : Memref sig Kind.scVector Space.hbm S16384x128 EltTy.f32 := Memref.whole main_v3_0_scv
abbrev pO : Memref sig Kind.scVector Space.hbm S16384x128 EltTy.f32 := Memref.whole main_v3_1_scv
abbrev nO : Memref sig Kind.scVector Space.hbm S16384x128 EltTy.f32 := Memref.whole main_v3_2_scv
abbrev lV : Memref sig Kind.scVector Space.vmem S12x128 EltTy.i32 := Memref.whole cc0_scratch0
abbrev rV : Memref sig Kind.scVector Space.vmem S2x128x128 EltTy.f32 := Memref.whole cc0_scratch1

/-! ## What a look-up is -/

/-- Row `r` of the flat list of ids, the list in 128 rows of 128. -/
abbrev idAt (ids : S128x128.Idx → BitVec 32) (r : Fin 16384) : BitVec 32 :=
  ids (ix2 (n0 := 128) (n1 := 128) ⟨r.val / 128, by omega⟩ ⟨r.val % 128, by omega⟩)

/-- The table's rows at the ids: row `r` of the result is row `ids r` of the table (an id out of range, wrapped). -/
def look (tbl : S1000000x128.Idx → Elt F .f32) (ids : S128x128.Idx → BitVec 32) : S16384x128.Idx → Elt F .f32 := fun x =>
  tbl (ix2 (n0 := 1000000) (n1 := 128) ⟨(idAt ids (x 0)).toNat % 1000000, Nat.mod_lt _ (by decide)⟩ (x 1))

/-! ## The windows the body addresses -/

section Tile

variable (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The tile's number among the 32: its subcore's times two, plus its core's. -/
def wid (L : grid0.Coords) : Fin 32 := ⟨(L 1).val * 2 + (L 0).val, by
  have h0 : (L 0).val < 2 := (L 0).isLt; have h1 : (L 1).val < 16 := (L 1).isLt; omega⟩

theorem off1_val : ∀ L : grid0.Coords, k0_off1 L = ![(wid L).val * 4, 0] := by decide +kernel
theorem off2_val : ∀ (L : grid0.Coords) (k : Fin 4),
    k0_off2 L (BitVec.ofNat 32 (128 * k.val)) = ![(wid L).val * 512 + k.val * 128, 0] := by decide +kernel

/-- The tile's 4 rows of an id list. -/
abbrev idsK (X : Memref sig Kind.scVector Space.hbm S128x128 EltTy.i32) : Memref sig .scVector .hbm S4x128 .i32 :=
  X.slice (Rect.unit (s := S128x128) (k0_off1 L) S4x128.size (k0_off1_inb L)) (fun _ => rfl)
/-- The tile's block `k` of 128 rows of an output. -/
abbrev blkK (O : Memref sig Kind.scVector Space.hbm S16384x128 EltTy.f32) (k : Fin 4) : Memref sig .scVector .hbm S128x128 .f32 :=
  O.slice (Rect.unit (s := S16384x128) (k0_off2 L (BitVec.ofNat 32 (128 * k.val))) S128x128.size (k0_off2_inb L k)) (fun _ => rfl)

theorem inb_slot (j : Fin 2) : ∀ a, (![j.val, 0, 0] : Fin 3 → Nat) a + S1x128x128.size a ≤ S2x128x128.size a := by
  revert j; decide
theorem inb_row (r : Fin 12) : ∀ a, (![r.val, 0] : Fin 2 → Nat) a + S1x128.size a ≤ S12x128.size a := by
  revert r; decide

/-- Slot `j` of the row scratch. -/
abbrev slotK (j : Fin 2) : Memref sig .scVector .vmem S128x128 .f32 :=
  (rV.slice (Rect.unit (s := S2x128x128) ![j.val, 0, 0] S1x128x128.size (inb_slot j)) (fun _ => rfl)).squeeze S128x128 squeezes_S1x128x128_S128x128
/-- Row `r` of the index scratch. -/
abbrev rowK (r : Fin 12) : Memref sig .scVector .vmem S128 .i32 :=
  (lV.slice (Rect.unit (s := S12x128) ![r.val, 0] S1x128.size (inb_row r)) (fun _ => rfl)).squeeze S128 squeezes_S1x128_S128

/-- What the index scratch holds after the three fetches: the tile's 4 rows of each list, one after another. -/
def lists (u p n : S128x128.Idx → BitVec 32) : S12x128.Idx → BitVec 32 := fun x =>
  let r : Fin 128 := ⟨(wid L).val * 4 + (x 0).val % 4, by have := (wid L).isLt; omega⟩
  if (x 0).val < 4 then u (ix2 (n0 := 128) (n1 := 128) r (x 1))
  else if (x 0).val < 8 then p (ix2 (n0 := 128) (n1 := 128) r (x 1))
  else n (ix2 (n0 := 128) (n1 := 128) r (x 1))

variable [FloatOps F]

/-- Ids in the table's range. -/
def InRange (ids : S128x128.Idx → BitVec 32) : Prop := ∀ j, (ids j).toNat < 1000000

variable (d : Dev nD)

/-- The seven transfer cells the body uses, at zero. -/
abbrev cells0 : sProp 𝕄 :=
  iprop(semVal (VT d L, .dma cc0_scratch2.sem) 0 ∗ semVal (VT d L, .dma cc0_scratch3.sem) 0
    ∗ semVal (VT d L, .dma cc0_scratch4.sem) 0 ∗ semVal (VT d L, .dma cc0_scratch5.sem) 0
    ∗ semVal (VT d L, .dma cc0_scoped0.sem) 0 ∗ semVal (VT d L, .dma cc0_scoped1.sem) 0 ∗ semVal (VT d L, .dma cc0_scoped2.sem) 0)

/-- Block `k` of an output, at contents `f`. -/
abbrev blkP (O : Memref sig Kind.scVector Space.hbm S16384x128 EltTy.f32) (k : Fin 4) (f : Buf (Elt F) ((blkK L O k).view.loc (VT d L))) : sProp 𝕄 :=
  (blkK L O k).view.loc (VT d L) ↦[(blkK L O k).view.set]{fullShare} f
/-- The four blocks of an output. -/
abbrev blksP (O : Memref sig Kind.scVector Space.hbm S16384x128 EltTy.f32) (f : Buf (Elt F) (O.view.loc (VT d L))) : sProp 𝕄 :=
  iprop(blkP L d O 0 f ∗ blkP L d O 1 f ∗ blkP L d O 2 f ∗ blkP L d O 3 f)

/-- The two slots of the row scratch, at contents `f`. -/
abbrev slotP (j : Fin 2) (f : Buf (Elt F) ((slotK j).view.loc (VT d L))) : sProp 𝕄 :=
  (slotK j).view.loc (VT d L) ↦[(slotK j).view.set]{fullShare} f
/-- Row `r` of the index scratch, at contents `f`. -/
abbrev rowP (r : Fin 12) (f : Buf (Elt F) ((rowK r).view.loc (VT d L))) : sProp 𝕄 :=
  (rowK r).view.loc (VT d L) ↦[(rowK r).view.set]{fullShare} f

omit [FloatOps F] in
/-- The three fetches written one after another read as `lists`, whatever the scratch held. -/
theorem lists_read (b : S12x128.Idx → Elt F .i32) (u p n : S128x128.Idx → Elt F .i32)
    (i0 : ∀ a, (![0, 0] : Fin 2 → Nat) a + S4x128.size a ≤ S12x128.size a)
    (i1 : ∀ a, (![4, 0] : Fin 2 → Nat) a + S4x128.size a ≤ S12x128.size a)
    (i2 : ∀ a, (![8, 0] : Fin 2 → Nat) a + S4x128.size a ≤ S12x128.size a) (x : S12x128.Idx) :
    lV.view.read (Elt F) (lV.view.writes (Elt F) b
        [(⟨Rect.unit (s := S12x128) ![8, 0] S4x128.size i2, (idsK L nI).view.read (Elt F) n⟩ : View.Piece (Elt F) S12x128 .i32),
          ⟨Rect.unit (s := S12x128) ![4, 0] S4x128.size i1, (idsK L pI).view.read (Elt F) p⟩,
          ⟨Rect.unit (s := S12x128) ![0, 0] S4x128.size i0, (idsK L uI).view.read (Elt F) u⟩]) x
      = lists L u p n x := by
  have h0 : (x 0).val < 12 := (x 0).isLt
  have hrd : ∀ (v : S128x128.Idx → Elt F .i32) (y : S4x128.Idx), (idsK L uI).view.read (Elt F) v y
      = v (ix2 (n0 := 128) (n1 := 128) ⟨(wid L).val * 4 + (y 0).val, by have := (wid L).isLt; have : (y 0).val < 4 := (y 0).isLt; omega⟩ (y 1)) := by
    intro v y
    refine congrArg v (funext fun a => Fin.ext ?_)
    have ho := congrFun (off1_val L)
    match a with
    | ⟨0, _⟩ => show k0_off1 L 0 + 1 * (y 0).val = _; rw [ho 0, one_mul]; rfl
    | ⟨1, _⟩ => show k0_off1 L 1 + 1 * (y 1).val = _; rw [ho 1, one_mul]; exact Nat.zero_add _
  have hx : ∀ (o : ℕ) (ho : o ≤ (x 0).val ∧ (x 0).val < o + 4) (y : S4x128.Idx), y = ix2 (n0 := 4) (n1 := 128) ⟨(x 0).val - o, by omega⟩ (x 1) →
      (x 0).val = o + (y 0).val ∧ (x 1).val = (y 1).val := by
    rintro o ho y rfl
    exact ⟨by show _ = o + ((x 0).val - o); omega, rfl⟩
  by_cases h8 : 8 ≤ (x 0).val
  · obtain ⟨e0, e1⟩ := hx 8 ⟨h8, by omega⟩ _ rfl
    refine (View.read_writes_cons_rows_of_mem (d := ![12, 128]) _ _ _ _ _ _ _ rfl e0 e1).trans ?_
    refine (hrd n _).trans ?_
    simp only [lists, if_neg (show ¬(x 0).val < 4 by omega), if_neg (show ¬(x 0).val < 8 by omega)]
    exact congrArg n (congrArg₂ (ix2 (n0 := 128) (n1 := 128)) (Fin.ext (by show _ + ((x 0).val - 8) = _; dsimp only; omega)) rfl)
  · refine (View.read_writes_cons_rows_of_not_mem (d := ![12, 128]) (o := 8) (W := 4) _ _ _ _ _ _ rfl rfl (by omega)).trans ?_
    by_cases h4 : 4 ≤ (x 0).val
    · obtain ⟨e0, e1⟩ := hx 4 ⟨h4, by omega⟩ _ rfl
      refine (View.read_writes_cons_rows_of_mem (d := ![12, 128]) _ _ _ _ _ _ _ rfl e0 e1).trans ?_
      refine (hrd p _).trans ?_
      simp only [lists, if_neg (show ¬(x 0).val < 4 by omega), if_pos (show (x 0).val < 8 by omega)]
      exact congrArg p (congrArg₂ (ix2 (n0 := 128) (n1 := 128)) (Fin.ext (by show _ + ((x 0).val - 4) = _; dsimp only; omega)) rfl)
    · refine (View.read_writes_cons_rows_of_not_mem (d := ![12, 128]) (o := 4) (W := 4) _ _ _ _ _ _ rfl rfl (by omega)).trans ?_
      obtain ⟨e0, e1⟩ := hx 0 ⟨by omega, by omega⟩ _ rfl
      refine (View.read_writes_cons_rows_of_mem (d := ![12, 128]) _ _ _ _ _ _ _ rfl e0 e1).trans ?_
      refine (hrd u _).trans ?_
      simp only [lists, if_pos (show (x 0).val < 4 by omega)]
      exact congrArg u (congrArg₂ (ix2 (n0 := 128) (n1 := 128)) (Fin.ext (by show _ + ((x 0).val - 0) = _; dsimp only; omega)) rfl)

omit [FloatOps F] in
/-- The elements of a row of the index scratch: those of that row. -/
theorem mem_row (r : Fin 12) (x : S12x128.Idx) : x ∈ (rowK r).view.set ↔ (x 0).val = r.val := by
  have he : (rowK r).view.set = (Rect.unit (s := S12x128) ![r.val, 0] S1x128.size (inb_row r)).set :=
    ((View.set_reshape _ _).trans (View.set_slice_whole _ _))
  rw [he, Rect.mem_set_unit]
  have h1 : (x 1).val < 128 := (x 1).isLt
  constructor
  · intro h
    have : r.val ≤ (x 0).val ∧ (x 0).val < r.val + 1 := h 0
    omega
  · intro h a
    match a with
    | ⟨0, _⟩ => exact show r.val ≤ (x 0).val ∧ (x 0).val < r.val + 1 by omega
    | ⟨1, _⟩ => exact show 0 ≤ (x 1).val ∧ (x 1).val < 0 + 128 by omega

/-- The elements of row `r`. -/
abbrev rowSet (r : Fin 12) : Finset S12x128.Idx := (rowK r).view.set

omit [FloatOps F] in
theorem rows_disjoint : ∀ r ∈ (Finset.univ : Finset (Fin 12)), ∀ r' ∈ (Finset.univ : Finset (Fin 12)), r ≠ r' →
    Disjoint (rowSet r) (rowSet r') := fun r _ r' _ h =>
  Finset.disjoint_left.mpr fun x hx hx' => h (Fin.ext (((mem_row r x).mp hx).symm.trans ((mem_row r' x).mp hx')))

omit [FloatOps F] in
theorem rows_cover : (Finset.univ : Finset (Fin 12)).biUnion rowSet = Finset.univ :=
  Finset.eq_univ_iff_forall.mpr fun x => Finset.mem_biUnion.mpr ⟨x 0, Finset.mem_univ _, (mem_row (x 0) x).mpr rfl⟩

/-- The twelve rows of the index scratch. -/
abbrev rowsP (f : Buf (Elt F) (lV.view.loc (VT d L))) : sProp 𝕄 :=
  iprop(rowP L d 0 f ∗ rowP L d 1 f ∗ rowP L d 2 f ∗ rowP L d 3 f ∗ rowP L d 4 f ∗ rowP L d 5 f
    ∗ rowP L d 6 f ∗ rowP L d 7 f ∗ rowP L d 8 f ∗ rowP L d 9 f ∗ rowP L d 10 f ∗ rowP L d 11 f)

omit [FloatOps F] in
/-- A family over the twelve tasks, one by one. -/
theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_succ, bigSep_univ_succ, bigSep_univ_succ, bigSep_univ_succ, bigSep_univ_succ,
    bigSep_univ_succ, bigSep_univ_succ, bigSep_univ_succ, bigSep_univ_succ, bigSep_univ_succ,
    bigSep_univ_succ, BI.bigSep_univ_of_subsingleton (0 : Fin 1)]
  rfl

omit [FloatOps F] in
/-- The index scratch whole is its twelve rows. -/
theorem rows_eq (f : Buf (Elt F) (lV.view.loc (VT d L))) : (lV.view.loc (VT d L) ↦{fullShare} f : sProp 𝕄) = rowsP L d f := by
  rw [show (lV.view.loc (VT d L) ↦{fullShare} f : sProp 𝕄)
      = bigSep (Finset.univ : Finset (Fin 12)) fun r => rowP L d r f from
    (congrArg (fun I => (lV.view.loc (VT d L) ↦[I]{fullShare} f : sProp 𝕄)) rows_cover.symm).trans
      (pointsTo_biUnion (ℓ := lV.view.loc (VT d L)) Finset.univ rowSet rows_disjoint)]
  exact twelve (fun r => rowP L d r f)

omit [FloatOps F] in
/-- The fetches' writes, as the twelve rows at `lists`. -/
theorem rows_written (b : S12x128.Idx → Elt F .i32) (u p n : S128x128.Idx → Elt F .i32)
    (i0 : ∀ a, (![0, 0] : Fin 2 → Nat) a + S4x128.size a ≤ S12x128.size a)
    (i1 : ∀ a, (![4, 0] : Fin 2 → Nat) a + S4x128.size a ≤ S12x128.size a)
    (i2 : ∀ a, (![8, 0] : Fin 2 → Nat) a + S4x128.size a ≤ S12x128.size a) :
    (lV.view.loc (VT d L) ↦{fullShare} lV.view.writes (Elt F) b
        [(⟨Rect.unit (s := S12x128) ![8, 0] S4x128.size i2, (idsK L nI).view.read (Elt F) n⟩ : View.Piece (Elt F) S12x128 .i32),
          ⟨Rect.unit (s := S12x128) ![4, 0] S4x128.size i1, (idsK L pI).view.read (Elt F) p⟩,
          ⟨Rect.unit (s := S12x128) ![0, 0] S4x128.size i0, (idsK L uI).view.read (Elt F) u⟩] : sProp 𝕄)
      ⊢ rowsP L d (lists L u p n) := by
  refine (Entails.of_eq (congrArg (fun f => (lV.view.loc (VT d L) ↦{fullShare} f : sProp 𝕄)) (funext fun x => ?_))).trans
    (Entails.of_eq (rows_eq L d _))
  exact lists_read L b u p n i0 i1 i2 x

omit [FloatOps F] in
/-- A row of the lists, read: element `l` of row `r` is the id that the row's task gathers `l`-th. -/
theorem row_read (r : Fin 12) (f : S12x128.Idx → Elt F .i32) (x : S128.Idx) :
    (rowK r).view.read (Elt F) f x = f (ix2 (n0 := 12) (n1 := 128) r (x 0)) := by
  refine congrArg f (funext fun a => Fin.ext ?_)
  have e : Shape.reshapeEquiv (s := S1x128) (s' := S128) squeezes_S1x128_S128.numel_eq x = ix2 (n0 := 1) (n1 := 128) 0 (x 0) := by
    simp only [pointwise]
  have hv : (rowK r).view.emb x = (Rect.unit (s := S12x128) ![r.val, 0] S1x128.size (inb_row r)).emb
      (ix2 (n0 := 1) (n1 := 128) 0 (x 0)) := by
    rw [← e]; rfl
  rw [hv]
  match a with
  | ⟨0, _⟩ => exact show r.val + 1 * 0 = r.val by omega
  | ⟨1, _⟩ => exact show 0 + 1 * (x 0).val = (x 0).val by omega

omit [FloatOps F] in
/-- Every word of the lists is in the table's range. -/
theorem lists_lt {u p n : S128x128.Idx → BitVec 32} (hu : InRange u) (hp : InRange p) (hn : InRange n) (x : S12x128.Idx) :
    (lists L u p n x).toNat < 1000000 := by
  simp only [lists]
  split
  · exact hu _
  · split
    · exact hp _
    · exact hn _

/-! ## What a task leaves in its block -/

section Values

variable {κ κ' : Kind} {sp sp' : Space} {s : Shape} {e : EltTy}

/-- What was written through a whole window reads back. -/
theorem read_written (v : View sig κ sp s e) (f : v.ty.Contents (Elt F))
    (w : s.Idx → Elt F e) (Ls : List (View.Piece (Elt F) s e)) :
    v.read (Elt F) (v.writes (Elt F) f ((⟨Rect.whole s, w⟩ : View.Piece (Elt F) s e) :: Ls)) = w := funext fun x => by
  have h := View.read_writes_cons_emb v f (Rect.whole s) w Ls x
  rwa [Rect.emb_whole_apply] at h

/-- A window written with what some contents read through it holds those contents. -/
theorem done (c : Thread nD τ) (v : View sig c.2.kind sp s e) (f g : v.ty.Contents (Elt F)) (w : s.Idx → Elt F e)
    (h : w = v.read (Elt F) g) :
    (v.loc c ↦[v.set]{fullShare} v.writes (Elt F) f [(⟨Rect.whole s, w⟩ : View.Piece (Elt F) s e)] : sProp 𝕄)
      ⊢ v.loc c ↦[v.set]{fullShare} g := by
  refine Entails.of_eq (pointsTo_congr fun i hi => ?_)
  obtain ⟨x, -, rfl⟩ := Finset.mem_map.mp hi
  have e := congrFun ((read_written v f _ []).trans h) x
  rw [View.read_apply, View.read_apply] at e
  exact (cast_inj _).mp e

end Values

omit [FloatOps F] in
/-- A block of the looked-up rows, read: row `l` of block `k` of tile `w` is row `512 w + 128 k + l`. -/
theorem block_read (k : Fin 4) (f : S16384x128.Idx → Elt F .f32) (y : S128x128.Idx) :
    (blkK L uO k).view.read (Elt F) f y = f (ix2 (n0 := 16384) (n1 := 128) ⟨(wid L).val * 512 + k.val * 128 + (y 0).val, by
      have := (wid L).isLt; have : (y 0).val < 128 := (y 0).isLt; omega⟩ (y 1)) := by
  refine congrArg f (funext fun a => Fin.ext ?_)
  have ho := congrFun (off2_val L k)
  match a with
  | ⟨0, _⟩ => show k0_off2 L (BitVec.ofNat 32 (128 * k.val)) 0 + 1 * (y 0).val = _; rw [ho 0, one_mul]; rfl
  | ⟨1, _⟩ => show k0_off2 L (BitVec.ofNat 32 (128 * k.val)) 1 + 1 * (y 1).val = _; rw [ho 1, one_mul]; exact Nat.zero_add _

omit [FloatOps F] in
/-- A task's gather delivers its block of the look-up: task `r` gathers the table's rows at row `r` of the lists, which is
    the tile's `k`-th row of the ids. -/
theorem block_val (u p n : S128x128.Idx → BitVec 32) (tbl : S1000000x128.Idx → Elt F .f32) (ids : S128x128.Idx → BitVec 32)
    (r : Fin 12) (k : Fin 4) (hids : InRange ids)
    (hk : ∀ l : Fin 128, lists L u p n (ix2 (n0 := 12) (n1 := 128) r l)
      = ids (ix2 (n0 := 128) (n1 := 128) ⟨(wid L).val * 4 + k.val, by have := (wid L).isLt; omega⟩ l))
    (i : ∀ a, (![0, 0] : Fin 2 → Nat) a + S1000000x128.size a ≤ S1000000x128.size a)
    (hn : S128.numel = S128x128.size (gathers_S1000000x128_S128x128).axis')
    (h : ∀ x, ((rowK r).view.read (Elt F) (lists L u p n) x).toNat < S1000000x128.size (gathers_S1000000x128_S128x128).axis) :
    SparseCore.gatherPayload (F := F) (e := .f32) gathers_S1000000x128_S128x128
        ((uT.slice (Rect.unit (s := S1000000x128) ![0, 0] S1000000x128.size i) (fun _ => rfl)).view.read (Elt F) tbl)
        (SparseCore.rows (F := F) ((rowK r).view.read (Elt F) (lists L u p n)) hn h)
      = (blkK L uO k).view.read (Elt F) (look tbl ids) := by
  funext y
  rw [block_read]
  have hy0 : (y 0).val < 128 := (y 0).isLt
  have hw := (wid L).isLt
  unfold SparseCore.gatherPayload look
  refine congrArg tbl (funext fun a => Fin.ext ?_)
  have hid : idAt ids ⟨(wid L).val * 512 + k.val * 128 + (y 0).val, by omega⟩
      = ids (ix2 (n0 := 128) (n1 := 128) ⟨(wid L).val * 4 + k.val, by omega⟩ (y 0)) := by
    refine congrArg ids (congrArg₂ (ix2 (n0 := 128) (n1 := 128)) (Fin.ext ?_) (Fin.ext ?_))
    · show ((wid L).val * 512 + k.val * 128 + (y 0).val) / 128 = _; dsimp only; omega
    · show ((wid L).val * 512 + k.val * 128 + (y 0).val) % 128 = (y 0).val; omega
  match a with
  | ⟨0, _⟩ =>
    show 0 + 1 * (Shape.Gathers.idx gathers_S1000000x128_S128x128 _ y (gathers_S1000000x128_S128x128).axis).val = _
    rw [Shape.Gathers.idx_axis]
    have hsym : ((S128.rowMajor).symm ((y 0).cast hn.symm)) = ix1 (n0 := 128) (y 0) := by
      rw [Equiv.symm_apply_eq]
      exact Fin.ext (by rw [rowMajor_val1]; rfl)
    show 0 + 1 * ((rowK r).view.read (Elt F) (lists L u p n) ((S128.rowMajor).symm ((y 0).cast hn.symm))).toNat = _
    rw [hsym, row_read, Nat.zero_add, Nat.one_mul]
    refine (congrArg BitVec.toNat (hk (y 0))).trans ?_
    show _ = (idAt ids ⟨(wid L).val * 512 + k.val * 128 + (y 0).val, _⟩).toNat % 1000000
    rw [hid, Nat.mod_eq_of_lt (hids _)]
  | ⟨1, _⟩ =>
    show 0 + 1 * (Shape.Gathers.idx gathers_S1000000x128_S128x128 _ y 1).val = (y 1).val
    rw [Shape.Gathers.idx_of_ne _ _ _ _ (by decide), Nat.zero_add, Nat.one_mul]
    rfl

omit [FloatOps F] in
/-- Rows 0–3 of the lists are the tile's four rows of the user ids, -/
theorem lists_u (u p n : S128x128.Idx → BitVec 32) (k : Fin 4) (l : Fin 128) :
    lists L u p n (ix2 (n0 := 12) (n1 := 128) ⟨k.val, by omega⟩ l)
      = u (ix2 (n0 := 128) (n1 := 128) ⟨(wid L).val * 4 + k.val, by have := (wid L).isLt; omega⟩ l) := by
  have hk := k.isLt
  refine (if_pos (show k.val < 4 from hk)).trans (congrArg u (congrArg₂ (ix2 (n0 := 128) (n1 := 128)) (Fin.ext ?_) rfl))
  show (wid L).val * 4 + k.val % 4 = (wid L).val * 4 + k.val; omega

omit [FloatOps F] in
/-- rows 4–7 those of the positive items' ids, -/
theorem lists_p (u p n : S128x128.Idx → BitVec 32) (k : Fin 4) (l : Fin 128) :
    lists L u p n (ix2 (n0 := 12) (n1 := 128) ⟨4 + k.val, by omega⟩ l)
      = p (ix2 (n0 := 128) (n1 := 128) ⟨(wid L).val * 4 + k.val, by have := (wid L).isLt; omega⟩ l) := by
  have hk := k.isLt
  refine ((if_neg (show ¬4 + k.val < 4 by omega)).trans (if_pos (show 4 + k.val < 8 by omega))).trans
    (congrArg p (congrArg₂ (ix2 (n0 := 128) (n1 := 128)) (Fin.ext ?_) rfl))
  show (wid L).val * 4 + (4 + k.val) % 4 = (wid L).val * 4 + k.val; omega

omit [FloatOps F] in
/-- rows 8–11 those of the negative items' ids. -/
theorem lists_n (u p n : S128x128.Idx → BitVec 32) (k : Fin 4) (l : Fin 128) :
    lists L u p n (ix2 (n0 := 12) (n1 := 128) ⟨8 + k.val, by omega⟩ l)
      = n (ix2 (n0 := 128) (n1 := 128) ⟨(wid L).val * 4 + k.val, by have := (wid L).isLt; omega⟩ l) := by
  have hk := k.isLt
  refine ((if_neg (show ¬8 + k.val < 4 by omega)).trans (if_neg (show ¬8 + k.val < 8 by omega))).trans
    (congrArg n (congrArg₂ (ix2 (n0 := 128) (n1 := 128)) (Fin.ext ?_) rfl))
  show (wid L).val * 4 + (8 + k.val) % 4 = (wid L).val * 4 + k.val; omega

set_option maxHeartbeats 2000000 in
/-- The body, run from its windows: the outputs' blocks end at the looked-up rows. -/
theorem tile_run (O : CellTallies nD τ sig (HIx 1)) (W : Waits sig (HIx 1)) (q : PosShare TreeShare)
    (fu : Buf (Elt F) (uI.view.loc (VT d L))) (fp : Buf (Elt F) (pI.view.loc (VT d L))) (fn : Buf (Elt F) (nI.view.loc (VT d L)))
    (ft : Buf (Elt F) (uT.view.loc (VT d L))) (fi : Buf (Elt F) (iT.view.loc (VT d L)))
    (hu : InRange fu) (hp : InRange fp) (hn : InRange fn)
    (ou : Buf (Elt F) (uO.view.loc (VT d L))) (op : Buf (Elt F) (pO.view.loc (VT d L))) (on : Buf (Elt F) (nO.view.loc (VT d L)))
    (g : Buf (Elt F) (lV.view.loc (VT d L))) (t : Buf (Elt F) (rV.view.loc (VT d L))) :
    (iprop(Transfers.MayWaits (VT d L) (default : HIx 1) O
        ∗ (uI.view.loc (VT d L) ↦{q} fu) ∗ (pI.view.loc (VT d L) ↦{q} fp) ∗ (nI.view.loc (VT d L) ↦{q} fn)
        ∗ (uT.view.loc (VT d L) ↦{Transfers.shareTokN q 0} ft) ∗ (uT.view.loc (VT d L) ↦{Transfers.shareTokN q 1} ft)
        ∗ (iT.view.loc (VT d L) ↦{Transfers.shareTokN q 0} fi) ∗ (iT.view.loc (VT d L) ↦{Transfers.shareTokN q 1} fi)
        ∗ blksP L d uO ou ∗ blksP L d pO op ∗ blksP L d nO on
        ∗ (lV.view.loc (VT d L) ↦{fullShare} g) ∗ slotP L d 0 t ∗ slotP L d 1 t
        ∗ cells0 L d ∗ owes (VT d L) O W) : sProp 𝕄)
      ⊢ wp frame (wpE (defs₀ (F := F)) 𝒱₀ (VT d L) none) Set.univ
          (cc0_k L uI (Memref.isWhole_whole _) pI (Memref.isWhole_whole _) nI (Memref.isWhole_whole _)
            uT (Memref.isWhole_whole _) iT (Memref.isWhole_whole _) uO (Memref.isWhole_whole _) pO (Memref.isWhole_whole _)
            nO (Memref.isWhole_whole _) lV (Memref.isWhole_whole _) rV (Memref.isWhole_whole _)
            cc0_scratch2 cc0_scratch3 cc0_scratch4 cc0_scratch5 cc0_scoped0 cc0_scoped1 cc0_scoped2)
          fun _ => iprop((uI.view.loc (VT d L) ↦{q} fu) ∗ (pI.view.loc (VT d L) ↦{q} fp) ∗ (nI.view.loc (VT d L) ↦{q} fn)
            ∗ (uT.view.loc (VT d L) ↦{Transfers.shareTokN q 0} ft) ∗ (uT.view.loc (VT d L) ↦{Transfers.shareTokN q 1} ft)
            ∗ (iT.view.loc (VT d L) ↦{Transfers.shareTokN q 0} fi) ∗ (iT.view.loc (VT d L) ↦{Transfers.shareTokN q 1} fi)
            ∗ blksP L d uO (look ft fu) ∗ blksP L d pO (look fi fp) ∗ blksP L d nO (look fi fn)
            ∗ (∃ g, lV.view.loc (VT d L) ↦{fullShare} g) ∗ (∃ t, slotP L d 0 t) ∗ (∃ t, slotP L d 1 t)
            ∗ cells0 L d ∗ ∃ W', owes (VT d L) O W') := by
  unfold uI pI nI uT iT uO pO nO lV rV
  iintro ⟨#Hmw, Hu, Hp, Hn, Ht0, Ht1, Hi0, Hi1, ⟨Ou0, Ou1, Ou2, Ou3⟩, ⟨Op0, Op1, Op2, Op3⟩, ⟨On0, On1, On2, On3⟩, Hl, Hs0, Hs1,
    ⟨Hc0, Hc1, Hc2, Hc3, Hc4, Hc5, Hc6⟩, HO⟩
  sl_unfold [cc0_k]
  sl_exec
  unfold tile_run.sl.dma0 tile_run.sl.dma0_1 tile_run.sl.dma0_2
  ihave Hr := (rows_written L d _ fu fp fn _ _ _) $$ Hl
  icases Hr with ⟨Hr0, Hr1, Hr2, Hr3, Hr4, Hr5, Hr6, Hr7, Hr8, Hr9, Hr10, Hr11⟩
  have hin : ∀ (r : Fin 12) (x : S128.Idx), ((rowK r).view.read (Elt F) (lists L fu fp fn) x).toNat
      < S1000000x128.size (gathers_S1000000x128_S128x128).axis := fun r x => by
    rw [row_read]; exact lists_lt L hu hp hn _
  have h0 := hin 0
  have h1 := hin 1
  have h2 := hin 2
  have h3 := hin 3
  have h4 := hin 4
  have h5 := hin 5
  have h6 := hin 6
  have h7 := hin 7
  have h8 := hin 8
  have h9 := hin 9
  have h10 := hin 10
  have h11 := hin 11
  sl_exec
  sl_step
  have e0 : tile_run.sl.dma0_3 L d fu fp fn ft t h0 = (blkK L uO 0).view.read (Elt F) (look ft fu) :=
    (read_written (slotK 0).view _ _ _).trans (block_val L fu fp fn ft fu 0 0 hu (lists_u L fu fp fn 0) _ _ h0)
  ihave Ou0 := (done (VT d L) (blkK L uO 0).view _ (look ft fu) _ e0) $$ Ou0
  have e1 : tile_run.sl.dma0_4 L d fu fp fn ft t h1 = (blkK L uO 1).view.read (Elt F) (look ft fu) :=
    (read_written (slotK 1).view _ _ _).trans (block_val L fu fp fn ft fu 1 1 hu (lists_u L fu fp fn 1) _ _ h1)
  ihave Ou1 := (done (VT d L) (blkK L uO 1).view _ (look ft fu) _ e1) $$ Ou1
  have e2 : tile_run.sl.dma0_5 L d fu fp fn ft t h0 h2 = (blkK L uO 2).view.read (Elt F) (look ft fu) :=
    (read_written (slotK 0).view _ _ _).trans (block_val L fu fp fn ft fu 2 2 hu (lists_u L fu fp fn 2) _ _ h2)
  ihave Ou2 := (done (VT d L) (blkK L uO 2).view _ (look ft fu) _ e2) $$ Ou2
  have e3 : tile_run.sl.dma0_6 L d fu fp fn ft t h1 h3 = (blkK L uO 3).view.read (Elt F) (look ft fu) :=
    (read_written (slotK 1).view _ _ _).trans (block_val L fu fp fn ft fu 3 3 hu (lists_u L fu fp fn 3) _ _ h3)
  ihave Ou3 := (done (VT d L) (blkK L uO 3).view _ (look ft fu) _ e3) $$ Ou3
  have e4 : tile_run.sl.dma0_7 L d fu fp fn ft fi t h0 h2 h4 = (blkK L pO 0).view.read (Elt F) (look fi fp) :=
    (read_written (slotK 0).view _ _ _).trans (block_val L fu fp fn fi fp 4 0 hp (lists_p L fu fp fn 0) _ _ h4)
  ihave Op0 := (done (VT d L) (blkK L pO 0).view _ (look fi fp) _ e4) $$ Op0
  have e5 : tile_run.sl.dma0_8 L d fu fp fn ft fi t h1 h3 h5 = (blkK L pO 1).view.read (Elt F) (look fi fp) :=
    (read_written (slotK 1).view _ _ _).trans (block_val L fu fp fn fi fp 5 1 hp (lists_p L fu fp fn 1) _ _ h5)
  ihave Op1 := (done (VT d L) (blkK L pO 1).view _ (look fi fp) _ e5) $$ Op1
  have e6 : tile_run.sl.dma0_9 L d fu fp fn ft fi t h0 h2 h4 h6 = (blkK L pO 2).view.read (Elt F) (look fi fp) :=
    (read_written (slotK 0).view _ _ _).trans (block_val L fu fp fn fi fp 6 2 hp (lists_p L fu fp fn 2) _ _ h6)
  ihave Op2 := (done (VT d L) (blkK L pO 2).view _ (look fi fp) _ e6) $$ Op2
  have e7 : tile_run.sl.dma0_10 L d fu fp fn ft fi t h1 h3 h5 h7 = (blkK L pO 3).view.read (Elt F) (look fi fp) :=
    (read_written (slotK 1).view _ _ _).trans (block_val L fu fp fn fi fp 7 3 hp (lists_p L fu fp fn 3) _ _ h7)
  ihave Op3 := (done (VT d L) (blkK L pO 3).view _ (look fi fp) _ e7) $$ Op3
  have e8 : tile_run.sl.dma0_11 L d fu fp fn ft fi t h0 h2 h4 h6 h8 = (blkK L nO 0).view.read (Elt F) (look fi fn) :=
    (read_written (slotK 0).view _ _ _).trans (block_val L fu fp fn fi fn 8 0 hn (lists_n L fu fp fn 0) _ _ h8)
  ihave On0 := (done (VT d L) (blkK L nO 0).view _ (look fi fn) _ e8) $$ On0
  have e9 : tile_run.sl.dma0_12 L d fu fp fn ft fi t h1 h3 h5 h7 h9 = (blkK L nO 1).view.read (Elt F) (look fi fn) :=
    (read_written (slotK 1).view _ _ _).trans (block_val L fu fp fn fi fn 9 1 hn (lists_n L fu fp fn 1) _ _ h9)
  ihave On1 := (done (VT d L) (blkK L nO 1).view _ (look fi fn) _ e9) $$ On1
  have e10 : tile_run.sl.dma0_13 L d fu fp fn ft fi t h0 h2 h4 h6 h8 h10 = (blkK L nO 2).view.read (Elt F) (look fi fn) :=
    (read_written (slotK 0).view _ _ _).trans (block_val L fu fp fn fi fn 10 2 hn (lists_n L fu fp fn 2) _ _ h10)
  ihave On2 := (done (VT d L) (blkK L nO 2).view _ (look fi fn) _ e10) $$ On2
  have e11 : tile_run.sl.dma0_14 L d fu fp fn ft fi t h1 h3 h5 h7 h9 h11 = (blkK L nO 3).view.read (Elt F) (look fi fn) :=
    (read_written (slotK 1).view _ _ _).trans (block_val L fu fp fn fi fn 11 3 hn (lists_n L fu fp fn 3) _ _ h11)
  ihave On3 := (done (VT d L) (blkK L nO 3).view _ (look fi fn) _ e11) $$ On3
  ihave Hl := (Entails.of_eq (rows_eq L d (lists L fu fp fn)).symm) $$ [Hr0 Hr1 Hr2 Hr3 Hr4 Hr5 Hr6 Hr7 Hr8 Hr9 Hr10 Hr11]
  · sl_close
  sl_close

end Tile

end Cert.Proof.ScI

end
-- ==== Proof.DealI.lean ====
/-
  The SparseCore call's dealing. The call takes the three id lists, the two tables and the three outputs whole; tile `w` of
  the 32 gets a 32nd share of each list and each table, and its four blocks of 128 rows of each output; it hands them back,
  the outputs' blocks at the looked-up rows. The whole arrays split into the tiles' pieces and join from them.
-/
module

public import proofs.«01_k».proof.Proof.TileI

@[expose] public section

set_option maxRecDepth 16384

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces -/

theorem blk_inb (p : Fin 32 × Fin 4) : ∀ a, (![p.1.val * 512 + p.2.val * 128, 0] : Fin 2 → Nat) a + S128x128.size a ≤ S16384x128.size a := by
  have h1 := p.1.isLt; have h2 := p.2.isLt
  intro a
  match a with
  | ⟨0, _⟩ => exact show p.1.val * 512 + p.2.val * 128 + 128 ≤ 16384 by omega
  | ⟨1, _⟩ => exact show 0 + 128 ≤ 128 by omega

/-- The elements of block `k` of tile `w`. -/
def blkSet (p : Fin 32 × Fin 4) : Finset S16384x128.Idx :=
  (Rect.unit (s := S16384x128) ![p.1.val * 512 + p.2.val * 128, 0] S128x128.size (blk_inb p)).set

theorem mem_blkSet (p : Fin 32 × Fin 4) (x : S16384x128.Idx) : x ∈ blkSet p ↔ (x 0).val / 128 = p.1.val * 4 + p.2.val := by
  unfold blkSet
  rw [Rect.mem_set_unit]
  have h1 : (x 1).val < 128 := (x 1).isLt
  constructor
  · intro h
    have : p.1.val * 512 + p.2.val * 128 ≤ (x 0).val ∧ (x 0).val < p.1.val * 512 + p.2.val * 128 + 128 := h 0
    omega
  · intro h a
    match a with
    | ⟨0, _⟩ => exact show p.1.val * 512 + p.2.val * 128 ≤ (x 0).val ∧ (x 0).val < p.1.val * 512 + p.2.val * 128 + 128 by omega
    | ⟨1, _⟩ => exact show 0 ≤ (x 1).val ∧ (x 1).val < 0 + 128 by omega

theorem blks_disjoint : ∀ p ∈ (Finset.univ : Finset (Fin 32 × Fin 4)), ∀ p' ∈ (Finset.univ : Finset (Fin 32 × Fin 4)), p ≠ p' →
    Disjoint (blkSet p) (blkSet p') := fun p _ p' _ h => Finset.disjoint_left.mpr fun x hx hx' => h (by
  have e := (mem_blkSet p x).mp hx
  have e' := (mem_blkSet p' x).mp hx'
  have h1 := p.2.isLt; have h2 := p'.2.isLt
  exact Prod.ext (Fin.ext (by omega)) (Fin.ext (by omega)))

theorem blks_cover : (Finset.univ : Finset (Fin 32 × Fin 4)).biUnion blkSet = Finset.univ :=
  Finset.eq_univ_iff_forall.mpr fun x => by
    have h : (x 0).val < 16384 := (x 0).isLt
    exact Finset.mem_biUnion.mpr ⟨(⟨(x 0).val / 128 / 4, by omega⟩, ⟨(x 0).val / 128 % 4, by omega⟩), Finset.mem_univ _,
      (mem_blkSet _ x).mpr (by show (x 0).val / 128 = (x 0).val / 128 / 4 * 4 + (x 0).val / 128 % 4; omega)⟩

theorem set_blkK (L : grid0.Coords) (k : Fin 4) : ((blkK L uO k).view.set : Finset S16384x128.Idx) = blkSet (wid L, k) := by
  refine (View.set_slice_whole _ _).trans ?_
  unfold blkSet
  congr 1
  simp only [off2_val L k]

/-- A tile's share of what it only reads. -/
abbrev shr (w : Fin 32) : PosShare TreeShare := pieceOf fullShare 32 (by decide) w

/-- The contents of the arrays at the call. -/
abbrev Arr (F : FTy → Type) : Type := (d : Dev nD) → (b : Ref sig .tc) → Buf (Elt F) (ℓr d b)

variable (A : Arr F)

/-- What a tile only reads, at its share. -/
abbrev rdP (d : Dev nD) (w : Fin 32) : sProp 𝕄 :=
  iprop((ℓr d main_v0 ↦{shr w} A d main_v0) ∗ (ℓr d main_v1 ↦{shr w} A d main_v1) ∗ (ℓr d main_v2 ↦{shr w} A d main_v2)
    ∗ (ℓr d main_arg3 ↦{shr w} A d main_arg3) ∗ (ℓr d main_arg4 ↦{shr w} A d main_arg4))

/-- A tile's four blocks of an output. -/
abbrev wrP (d : Dev nD) (w : Fin 32) (fu : Buf (Elt F) (ℓr d main_v3_0)) (fp : Buf (Elt F) (ℓr d main_v3_1)) (fn : Buf (Elt F) (ℓr d main_v3_2)) : sProp 𝕄 :=
  iprop((bigSep Finset.univ fun k : Fin 4 => ℓr d main_v3_0 ↦[blkSet (w, k)]{fullShare} fu)
    ∗ (bigSep Finset.univ fun k : Fin 4 => ℓr d main_v3_1 ↦[blkSet (w, k)]{fullShare} fp)
    ∗ (bigSep Finset.univ fun k : Fin 4 => ℓr d main_v3_2 ↦[blkSet (w, k)]{fullShare} fn))

/-- The three outputs after the call. -/
abbrev eu (d : Dev nD) : Buf (Elt F) (ℓr d main_v3_0) := look (A d main_arg3) (A d main_v0)
abbrev ep (d : Dev nD) : Buf (Elt F) (ℓr d main_v3_1) := look (A d main_arg4) (A d main_v1)
abbrev en (d : Dev nD) : Buf (Elt F) (ℓr d main_v3_2) := look (A d main_arg4) (A d main_v2)

/-- Tile `w`'s pieces at the call, and when it is done. -/
abbrev goP (d : Dev nD) (w : Fin 32) : sProp 𝕄 := iprop(rdP A d w ∗ wrP d w (A d main_v3_0) (A d main_v3_1) (A d main_v3_2))
abbrev tdP (d : Dev nD) (w : Fin 32) : sProp 𝕄 := iprop(rdP A d w ∗ wrP d w (eu A d) (ep A d) (en A d))

/-- The arrays the call takes, whole, the outputs at given contents. -/
abbrev scP (d : Dev nD) (fu : Buf (Elt F) (ℓr d main_v3_0)) (fp : Buf (Elt F) (ℓr d main_v3_1)) (fn : Buf (Elt F) (ℓr d main_v3_2)) : sProp 𝕄 :=
  iprop(((ℓr d main_v0 ↦{fullShare} A d main_v0) ∗ (ℓr d main_v1 ↦{fullShare} A d main_v1) ∗ (ℓr d main_v2 ↦{fullShare} A d main_v2)
      ∗ (ℓr d main_arg3 ↦{fullShare} A d main_arg3) ∗ (ℓr d main_arg4 ↦{fullShare} A d main_arg4))
    ∗ ((ℓr d main_v3_0 ↦{fullShare} fu) ∗ (ℓr d main_v3_1 ↦{fullShare} fp) ∗ (ℓr d main_v3_2 ↦{fullShare} fn)))

/-- An output whole is the tiles' blocks. -/
theorem blocks0 (d : Dev nD) (f : Buf (Elt F) (ℓr d main_v3_0)) : (ℓr d main_v3_0 ↦{fullShare} f : sProp 𝕄)
    = bigSep Finset.univ fun w : Fin 32 => bigSep Finset.univ fun k : Fin 4 => ℓr d main_v3_0 ↦[blkSet (w, k)]{fullShare} f := by
  rw [← BI.bigSep_univ_prod (fun p : Fin 32 × Fin 4 => (ℓr d main_v3_0 ↦[blkSet p]{fullShare} f : sProp 𝕄)),
    ← pointsTo_biUnion (ℓ := ℓr d main_v3_0) Finset.univ blkSet blks_disjoint]
  exact congrArg (fun I => (ℓr d main_v3_0 ↦[I]{fullShare} f : sProp 𝕄)) blks_cover.symm

theorem blocks1 (d : Dev nD) (f : Buf (Elt F) (ℓr d main_v3_1)) : (ℓr d main_v3_1 ↦{fullShare} f : sProp 𝕄)
    = bigSep Finset.univ fun w : Fin 32 => bigSep Finset.univ fun k : Fin 4 => ℓr d main_v3_1 ↦[blkSet (w, k)]{fullShare} f := by
  rw [← BI.bigSep_univ_prod (fun p : Fin 32 × Fin 4 => (ℓr d main_v3_1 ↦[blkSet p]{fullShare} f : sProp 𝕄)),
    ← pointsTo_biUnion (ℓ := ℓr d main_v3_1) Finset.univ blkSet blks_disjoint]
  exact congrArg (fun I => (ℓr d main_v3_1 ↦[I]{fullShare} f : sProp 𝕄)) blks_cover.symm

theorem blocks2 (d : Dev nD) (f : Buf (Elt F) (ℓr d main_v3_2)) : (ℓr d main_v3_2 ↦{fullShare} f : sProp 𝕄)
    = bigSep Finset.univ fun w : Fin 32 => bigSep Finset.univ fun k : Fin 4 => ℓr d main_v3_2 ↦[blkSet (w, k)]{fullShare} f := by
  rw [← BI.bigSep_univ_prod (fun p : Fin 32 × Fin 4 => (ℓr d main_v3_2 ↦[blkSet p]{fullShare} f : sProp 𝕄)),
    ← pointsTo_biUnion (ℓ := ℓr d main_v3_2) Finset.univ blkSet blks_disjoint]
  exact congrArg (fun I => (ℓr d main_v3_2 ↦[I]{fullShare} f : sProp 𝕄)) blks_cover.symm

/-- The arrays whole are the 32 tiles' pieces. -/
theorem deal (d : Dev nD) (fu : Buf (Elt F) (ℓr d main_v3_0)) (fp : Buf (Elt F) (ℓr d main_v3_1)) (fn : Buf (Elt F) (ℓr d main_v3_2)) :
    (scP A d fu fp fn : sProp 𝕄) = bigSep Finset.univ fun w : Fin 32 => iprop(rdP A d w ∗ wrP d w fu fp fn) := by
  unfold scP
  rw [bigSep_sep', bigSep_sep', bigSep_sep', bigSep_sep', bigSep_sep', bigSep_sep', bigSep_sep',
    blocks0, blocks1, blocks2,
    pointsTo_piecesOf (ℓ := ℓr d main_v0) Finset.univ _ (by decide : 0 < 32), pointsTo_piecesOf (ℓ := ℓr d main_v1) Finset.univ _ (by decide : 0 < 32),
    pointsTo_piecesOf (ℓ := ℓr d main_v2) Finset.univ _ (by decide : 0 < 32), pointsTo_piecesOf (ℓ := ℓr d main_arg3) Finset.univ _ (by decide : 0 < 32),
    pointsTo_piecesOf (ℓ := ℓr d main_arg4) Finset.univ _ (by decide : 0 < 32)]

/-! ## The payloads -/

/-- The number of tile `(c, s)`. -/
def widOf (c : Fin 2) (s : Fin 16) : Fin 32 := ⟨s.val * 2 + c.val, by omega⟩

/-- The tiles by core and subcore. -/
def tiles : Fin 2 × Fin 16 ≃ Fin 32 where
  toFun p := widOf p.1 p.2
  invFun w := (⟨w.val % 2, by omega⟩, ⟨w.val / 2, by omega⟩)
  left_inv p := by
    have h1 := p.1.isLt; have h2 := p.2.isLt
    exact Prod.ext (Fin.ext (show (p.2.val * 2 + p.1.val) % 2 = p.1.val by omega))
      (Fin.ext (show (p.2.val * 2 + p.1.val) / 2 = p.2.val by omega))
  right_inv w := Fin.ext (show w.val / 2 * 2 + w.val % 2 = w.val by omega)

theorem bigSep_tiles (Φ : Fin 32 → sProp 𝕄) : bigSep Finset.univ Φ
    = bigSep Finset.univ fun c : Fin 2 => bigSep Finset.univ fun s : Fin 16 => Φ (widOf c s) := by
  rw [bigSep_univ_equiv tiles Φ, BI.bigSep_univ_prod]; rfl

variable [FloatOps F]

/-- Core `c` takes its sixteen tiles' pieces and hands them back. -/
def P : (K (F := F)).Pay (nD := nD) (Val := Elt F) (Name := ℕ) (U := UU) where
  st := fun q d c => match q with | 0 => bigSep Finset.univ fun s : Fin 16 => goP A d (widOf c s)
  dn := fun q d c => match q with | 0 => bigSep Finset.univ fun s : Fin 16 => tdP A d (widOf c s)
  go := fun q d c i => match q with | 0 => goP A d (widOf c i)
  td := fun q d c i => match q with | 0 => tdP A d (widOf c i)
  x := fun _ _ => iprop(emp)

instance P_storable : (P A).IsStorable where
  st q d c := match q with
    | 0 => (inferInstance : BI.Storable (upEmb : UEmb _ 𝕄) (bigSep Finset.univ fun s : Fin 16 => goP A d (widOf c s)))
  dn q d c := match q with
    | 0 => (inferInstance : BI.Storable (upEmb : UEmb _ 𝕄) (bigSep Finset.univ fun s : Fin 16 => tdP A d (widOf c s)))
  go q d c i := match q with
    | 0 => (inferInstance : BI.Storable (upEmb : UEmb _ 𝕄) (goP A d (widOf c i)))
  td q d c i := match q with
    | 0 => (inferInstance : BI.Storable (upEmb : UEmb _ 𝕄) (tdP A d (widOf c i)))

theorem vecSplit : (K (F := F)).VecSplit' (P A) 0 := by
  intro d c
  show (bigSep Finset.univ fun s : Fin 16 => goP A d (widOf c s)) ⊢ |={Set.univ}=> iprop(
    (bigSep Finset.univ fun s : Fin 16 => goP A d (widOf c s))
      ∗ ((bigSep Finset.univ fun s : Fin 16 => tdP A d (widOf c s)) -∗ bigSep Finset.univ fun s : Fin 16 => tdP A d (widOf c s)))
  iintro H; imodintro
  isplitl [H]; · iexact H
  iintro H; iexact H

theorem st0_eq (d : Dev nD) : (bigSep Finset.univ fun c : Fin ((K (F := F)).nCore 0) => (P A).st 0 d c)
    = scP A d (A d main_v3_0) (A d main_v3_1) (A d main_v3_2) :=
  ((deal A d _ _ _).trans (bigSep_tiles _)).symm
theorem dn0_eq (d : Dev nD) : (bigSep Finset.univ fun c : Fin ((K (F := F)).nCore 0) => (P A).dn 0 d c)
    = scP A d (eu A d) (ep A d) (en A d) :=
  ((deal A d _ _ _).trans (bigSep_tiles _)).symm

/-! ## The tile's obligation -/

section Tile

variable (d : Dev nD) (L : grid0.Coords)

omit [FloatOps F] in
theorem scoped_cells : ∀ s : DmaSem sig, (SemLoc.dma s : SemLoc sig).isScoped .scVector = true := by decide

/-- The seven cells the body uses. -/
abbrev dcell (k : Fin 7) : GSem nD τ sig := (VT d L, .dma (⟨k.val, lt_of_lt_of_le k.isLt (by decide)⟩ : DmaSem sig))

omit [FloatOps F] in
theorem ownSems0_V :
    (ownSems0 (VT d L) : sProp 𝕄)
      = iprop(cells0 L d ∗ bigSep ((ownCells (VT d L)) \ Finset.univ.image (dcell d L)) fun g => semVal g 0) := by
  unfold SparseCore.Cfg.ownSems0
  rw [SparseCore.bigSep_sdiff_split' (t := Finset.univ.image (dcell d L))
      (Finset.image_subset_iff.mpr fun k _ => mem_ownCells.mpr ⟨rfl, scoped_cells _⟩),
    SparseCore.bigSep_image_of_injOn (fun a _ b _ h => by
      have := congrArg (fun g : GSem nD τ sig => g.2) h
      simp only [SemLoc.dma.injEq, Fin.mk.injEq] at this; exact Fin.ext this)]
  rw [bigSep_univ_succ, bigSep_univ_succ, bigSep_univ_succ, bigSep_univ_succ, bigSep_univ_succ, bigSep_univ_succ,
    BI.bigSep_univ_of_subsingleton (0 : Fin 1)]
  rfl

/-- The subcore's buffers other than its two scratch buffers. -/
abbrev restBufs : sProp 𝕄 :=
  bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f)

omit [FloatOps F] in
theorem ownBufs_V :
    (ownBufs (VT d L) : sProp 𝕄)
      = iprop((∃ f, (VT d L).loc cc0_scratch0 ↦{fullShare} f) ∗ (∃ f, (VT d L).loc cc0_scratch1 ↦{fullShare} f) ∗ restBufs d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- A share as what stays and two read tokens. -/
theorem toks (ℓ : Loc nD τ sig) (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

/-- The elements of slot `j` of the row scratch. -/
abbrev slotSet (j : Fin 2) : Finset S2x128x128.Idx := (slotK j).view.set

theorem mem_slot (j : Fin 2) (x : S2x128x128.Idx) : x ∈ slotSet j ↔ (x 0).val = j.val := by
  have he : (slotK j).view.set = (Rect.unit (s := S2x128x128) ![j.val, 0, 0] S1x128x128.size (inb_slot j)).set :=
    ((View.set_reshape _ _).trans (View.set_slice_whole _ _))
  unfold slotSet
  rw [he, Rect.mem_set_unit]
  have h1 : (x 1).val < 128 := (x 1).isLt
  have h2 : (x 2).val < 128 := (x 2).isLt
  constructor
  · intro h
    have : j.val ≤ (x 0).val ∧ (x 0).val < j.val + 1 := h 0
    omega
  · intro h a
    match a with
    | ⟨0, _⟩ => exact show j.val ≤ (x 0).val ∧ (x 0).val < j.val + 1 by omega
    | ⟨1, _⟩ => exact show 0 ≤ (x 1).val ∧ (x 1).val < 0 + 128 by omega
    | ⟨2, _⟩ => exact show 0 ≤ (x 2).val ∧ (x 2).val < 0 + 128 by omega

theorem slots_disjoint : ∀ r ∈ (Finset.univ : Finset (Fin 2)), ∀ r' ∈ (Finset.univ : Finset (Fin 2)), r ≠ r' →
    Disjoint (slotSet r) (slotSet r') := fun r _ r' _ h =>
  Finset.disjoint_left.mpr fun x hx hx' => h (Fin.ext (((mem_slot r x).mp hx).symm.trans ((mem_slot r' x).mp hx')))

theorem slots_cover : (Finset.univ : Finset (Fin 2)).biUnion slotSet = Finset.univ :=
  Finset.eq_univ_iff_forall.mpr fun x => Finset.mem_biUnion.mpr ⟨x 0, Finset.mem_univ _, (mem_slot (x 0) x).mpr rfl⟩

omit [FloatOps F] in
/-- The row scratch whole is its two slots, -/
theorem slots_split (t : Buf (Elt F) ((VT d L).loc cc0_scratch1)) :
    ((VT d L).loc cc0_scratch1 ↦{fullShare} t : sProp 𝕄) = iprop(slotP L d 0 t ∗ slotP L d 1 t) :=
  ((congrArg (fun I => ((VT d L).loc cc0_scratch1 ↦[I]{fullShare} t : sProp 𝕄)) slots_cover.symm).trans
    (pointsTo_biUnion (ℓ := (VT d L).loc cc0_scratch1) Finset.univ slotSet slots_disjoint)).trans (bigSep_fin_two _)

omit [FloatOps F] in
/-- and the two slots at whatever contents join into it. -/
theorem slots_join (t₀ t₁ : Buf (Elt F) ((VT d L).loc cc0_scratch1)) :
    iprop(slotP L d 0 t₀ ∗ slotP L d 1 t₁) ⊢ (iprop(∃ t, (VT d L).loc cc0_scratch1 ↦{fullShare} t) : sProp 𝕄) := by
  refine (Entails.of_eq (bigSep_fin_two (fun j : Fin 2 => ((VT d L).loc cc0_scratch1 ↦[slotSet j]{fullShare} (if j = 0 then t₀ else t₁) : sProp 𝕄))).symm).trans ?_
  refine (pointsTo_biUnion_join (ℓ := (VT d L).loc cc0_scratch1) (q := fullShare) (Val := Elt F) Finset.univ slotSet
    (fun j => if j = 0 then t₀ else t₁) t₀ slots_disjoint).trans ?_
  iintro ⟨%g, -, Hg⟩
  rw [slots_cover]
  iexists g; iexact Hg

omit [FloatOps F] in
theorem four (Φ : Fin 4 → sProp 𝕄) : bigSep Finset.univ Φ = iprop(Φ 0 ∗ Φ 1 ∗ Φ 2 ∗ Φ 3) := by
  rw [bigSep_univ_succ, bigSep_univ_succ, bigSep_univ_succ, BI.bigSep_univ_of_subsingleton (0 : Fin 1)]
  rfl

omit [FloatOps F] in
/-- A tile's four blocks of an output, in the body's spelling. -/
theorem blks0 (f : Buf (Elt F) (ℓr d main_v3_0)) :
    (bigSep Finset.univ fun k : Fin 4 => (ℓr d main_v3_0 ↦[blkSet (wid L, k)]{fullShare} f : sProp 𝕄)) = blksP L d uO f :=
  (bigSep_congr fun k _ => congrArg (fun I => (ℓr d main_v3_0 ↦[I]{fullShare} f : sProp 𝕄)) (set_blkK L k).symm).trans
    (four _)
omit [FloatOps F] in
theorem blks1 (f : Buf (Elt F) (ℓr d main_v3_1)) :
    (bigSep Finset.univ fun k : Fin 4 => (ℓr d main_v3_1 ↦[blkSet (wid L, k)]{fullShare} f : sProp 𝕄)) = blksP L d pO f :=
  (bigSep_congr fun k _ => congrArg (fun I => (ℓr d main_v3_1 ↦[I]{fullShare} f : sProp 𝕄)) (set_blkK L k).symm).trans
    (four _)
omit [FloatOps F] in
theorem blks2 (f : Buf (Elt F) (ℓr d main_v3_2)) :
    (bigSep Finset.univ fun k : Fin 4 => (ℓr d main_v3_2 ↦[blkSet (wid L, k)]{fullShare} f : sProp 𝕄)) = blksP L d nO f :=
  (bigSep_congr fun k _ => congrArg (fun I => (ℓr d main_v3_2 ↦[I]{fullShare} f : sProp 𝕄)) (set_blkK L k).symm).trans
    (four _)

/-- The three lists hold ids in the tables' range. -/
def PreOK : Prop := ∀ d : Dev nD, InRange (A d main_v0) ∧ InRange (A d main_v1) ∧ InRange (A d main_v2)

/-- The task on tile `L` of device `d`, from its pieces to its pieces, the outputs' blocks at the looked-up rows. -/
theorem tile_body (hF : (K (F := F)).Facts) (hpre : PreOK A) (O : CellTallies nD τ sig (HIx 1)) (W : Waits sig (HIx 1)) (hO : ∀ g, O g none = 0) :
    iprop(levAts (K (F := F)).L (K (F := F)).lev ∗ emp ∗ goP A d (wid L)
        ∗ scopedBufs (VT d L) ∗ scopedSems0 (VT d L) ∗ owes (VT d L) O W)
      ⊢ wp frame (wpE (defs₀ (F := F)) 𝒱₀ (VT d L) none) Set.univ
          (cc0_k L uI (Memref.isWhole_whole _) pI (Memref.isWhole_whole _) nI (Memref.isWhole_whole _)
            uT (Memref.isWhole_whole _) iT (Memref.isWhole_whole _) uO (Memref.isWhole_whole _) pO (Memref.isWhole_whole _)
            nO (Memref.isWhole_whole _) lV (Memref.isWhole_whole _) rV (Memref.isWhole_whole _)
            cc0_scratch2 cc0_scratch3 cc0_scratch4 cc0_scratch5 cc0_scoped0 cc0_scoped1 cc0_scoped2)
          fun _ => iprop(tdP A d (wid L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold goP tdP wrP
  rw [blks0, blks1, blks2, blks0, blks1, blks2]
  iintro ⟨#Hlv, -, ⟨⟨Hu, Hp, Hn, Ht, Hi⟩, Ou, Op, On⟩, ⟨⟨%g, Hl⟩, ⟨%t, Hr⟩, Hbufs⟩, ⟨Hc, Hsems⟩, HO⟩
  ihave Hmw := (show levAts (K (F := F)).L (K (F := F)).lev ⊢ Transfers.MayWaits (VT d L) (default : HIx 1) O from
    (K (F := F)).mayWaits_none (thr := VT d L) hO) $$ Hlv
  ihave Ht' := (toks (ℓr d main_arg3) (shr (wid L)) (A d main_arg3)).1 $$ Ht
  icases Ht' with ⟨Ht, Ht0, Ht1⟩
  ihave Hi' := (toks (ℓr d main_arg4) (shr (wid L)) (A d main_arg4)).1 $$ Hi
  icases Hi' with ⟨Hi, Hi0, Hi1⟩
  ihave Hr' := (Entails.of_eq (slots_split d L t)) $$ Hr
  icases Hr' with ⟨Hs0, Hs1⟩
  iapply (wp_wand_r Idealize.ShloMosaic.frame (wpE (defs₀ (F := F)) 𝒱₀ (VT d L) none) Set.univ)
  isplitl [Hu Hp Hn Ht0 Ht1 Hi0 Hi1 Ou Op On Hl Hs0 Hs1 Hc HO]
  · iapply (tile_run L d O W (shr (wid L)) (A d main_v0) (A d main_v1) (A d main_v2) (A d main_arg3) (A d main_arg4)
      (hpre d).1 (hpre d).2.1 (hpre d).2.2 (A d main_v3_0) (A d main_v3_1) (A d main_v3_2) g t)
    isplitr; · iexact Hmw
    isplitl [Hu]; · iexact Hu
    isplitl [Hp]; · iexact Hp
    isplitl [Hn]; · iexact Hn
    isplitl [Ht0]; · iexact Ht0
    isplitl [Ht1]; · iexact Ht1
    isplitl [Hi0]; · iexact Hi0
    isplitl [Hi1]; · iexact Hi1
    isplitl [Ou]; · iexact Ou
    isplitl [Op]; · iexact Op
    isplitl [On]; · iexact On
    isplitl [Hl]; · iexact Hl
    isplitl [Hs0]; · iexact Hs0
    isplitl [Hs1]; · iexact Hs1
    isplitl [Hc]; · iexact Hc
    iexact HO
  iintro %_ ⟨Hu, Hp, Hn, Ht0, Ht1, Hi0, Hi1, Ou, Op, On, Hl, ⟨%t0, Hs0⟩, ⟨%t1, Hs1⟩, Hc, ⟨%W', HO⟩⟩
  ihave Ht' := (toks (ℓr d main_arg3) (shr (wid L)) (A d main_arg3)).2 $$ [Ht Ht0 Ht1]
  · isplitl [Ht]; · iexact Ht
    isplitl [Ht0]; · iexact Ht0
    iexact Ht1
  ihave Hi' := (toks (ℓr d main_arg4) (shr (wid L)) (A d main_arg4)).2 $$ [Hi Hi0 Hi1]
  · isplitl [Hi]; · iexact Hi
    isplitl [Hi0]; · iexact Hi0
    iexact Hi1
  ihave Hr := (slots_join d L t0 t1) $$ [Hs0 Hs1]
  · isplitl [Hs0]; · iexact Hs0
    iexact Hs1
  isplitl [Hu Hp Hn Ht' Hi' Ou Op On]
  · isplitl [Hu Hp Hn Ht' Hi']
    · isplitl [Hu]; · iexact Hu
      isplitl [Hp]; · iexact Hp
      isplitl [Hn]; · iexact Hn
      isplitl [Ht']; · iexact Ht'
      iexact Hi'
    isplitl [Ou]; · iexact Ou
    isplitl [Op]; · iexact Op
    iexact On
  isplitl [Hl Hr Hbufs]
  · isplitl [Hl]; · iexact Hl
    isplitl [Hr]; · iexact Hr
    iexact Hbufs
  isplitl [Hc Hsems]
  · isplitl [Hc]; · iexact Hc
    iexact Hsems
  iexists W'; isplitr
  · ipureintro; intro p _
    rcases p.2 with _ | q
    · exact .inr (.inl rfl)
    · exact .inr (.inr (congrArg some (Subsingleton.elim q 0)))
  · iexact HO

/-- The tile's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) uI (Memref.isWhole_whole _) pI (Memref.isWhole_whole _)
          nI (Memref.isWhole_whole _) uT (Memref.isWhole_whole _) iT (Memref.isWhole_whole _) uO (Memref.isWhole_whole _)
          pO (Memref.isWhole_whole _) nO (Memref.isWhole_whole _) lV (Memref.isWhole_whole _) rV (Memref.isWhole_whole _)
          cc0_scratch2 cc0_scratch3 cc0_scratch4 cc0_scratch5 cc0_scoped0 cc0_scoped1 cc0_scoped2) ⟨⟩ c s := rfl

theorem tileObl (hF : (K (F := F)).Facts) (hpre : PreOK A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) hF hpre O W hO

end Tile

end Cert.Proof.ScI

end
-- ==== Proof.MlpI.lean ====
/-
  The MLP kernel's body at one grid point, run once on any whole staging buffers: it leaves the two score columns of
  its 2048 rows (`posBlk`, `negBlk`) and adds the rows' loss to the running scalar, which the first point resets.
-/
module

public import proofs.«01_k».proof.Proof.DealI
public import proofs.«01_k».proof.Proof.Gen.KernelIdeal.Launch
public import proofs.«01_k».proof.Proof.Gen.KernelIdeal.Points
public import Idealize.ShloMosaic.Lib.Pipeline.FrameBody
public import Idealize.ShloMosaic.Lib.WordCmp
public import Idealize.ShloMosaic.Lib.VecWindow

@[expose] public section

set_option maxRecDepth 16384

noncomputable section

namespace Cert.Proof.ScI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

/-- The positive score column of one block of rows. -/
def posBlk (u p : Vec F S2048x128 .f32) (wu wi : Vec F S128x128 .f32) (b0 : Vec F S1x128 .f32) (w1 : Vec F S128x128 .f32)
    (b1 : Vec F S1x128 .f32) (w2 : Vec F S128x128 .f32) (b2 vp : Vec F S1x128 .f32) (bp : Vec F S1x1 .f32) : Vec F S2048x1 .f32 :=
  k1_pay11 (k1_pay7 u wu b0 p wi w1 b1) (Scalar.ofBits .f32 0x00000000#32) w2 b2 vp (bp (ix2 0 0))

/-- The negative score column of one block of rows. -/
def negBlk (u n : Vec F S2048x128 .f32) (wu wi : Vec F S128x128 .f32) (b0 : Vec F S1x128 .f32) (w1 : Vec F S128x128 .f32)
    (b1 : Vec F S1x128 .f32) (w2 : Vec F S128x128 .f32) (b2 vp : Vec F S1x128 .f32) (bp : Vec F S1x1 .f32) : Vec F S2048x1 .f32 :=
  k1_pay12 (k1_pay4 u wu b0 n wi) (k1_pay5 w1) (k1_pay6 b1) w2 b2 vp (bp (ix2 0 0))

/-- The running loss after a block: the block's sum added to what was there. -/
def lossBlk (pos neg : Vec F S2048x1 .f32) (acc : Elt F .f32) : Vec F S1x1 .f32 := fun _ => k1_pay1 pos neg acc

/-- The body's branch: the point is the first. -/
abbrev first (i : grid1.Coords) : Prop := (Scalar.cmpi .ne (Scalar.extui (Scalar.cmpi .eq (BitVec.ofNat 32 (i 0).val) 0#32)) 0#32) = 1#1

/-- It is decided by the point's number. -/
theorem first_iff (t : Fin cfg1.N) : first (grid1.coords t) ↔ t.val % 8 = 0 := by
  have ht : t.val < 8 := Nat.lt_of_lt_of_eq t.isLt N_1
  have e0 : (grid1.coords t 0).val = t.val / 1 % 8 := Pipeline.Grid.coords_val t 0 (by decide) rfl
  simp only [first, e0]
  word_cmp

/-- A store over a whole buffer reads back as what was stored. -/
theorem read_put {κ : Kind} {sp : Space} {s : Shape} {e : EltTy} (v : View sig κ sp s e) (f : v.ty.Contents (Elt F))
    {off : Fin s.rank → ℕ} (inb : ∀ a, off a + s.size a ≤ s.size a) (w : s.Idx → Elt F e) (Ls : List (View.Piece (Elt F) s e)) :
    v.read (Elt F) (v.writes (Elt F) f ((⟨Rect.unit off s.size inb, w⟩ : View.Piece (Elt F) s e) :: Ls)) = w := funext fun x => by
  have h := View.read_writes_cons_emb v f (Rect.unit off s.size inb) w Ls x
  rwa [Rect.emb_unit_full] at h

/-- A load of a whole buffer reads the buffer. -/
theorem get_whole {κ : Kind} {sp : Space} {s : Shape} {e : EltTy} {a : Memref sig κ sp s e} (h : a.IsWhole) (x : s.Idx → Elt F e)
    {off : Fin s.rank → ℕ} (inb : ∀ a, off a + s.size a ≤ s.size a) :
    a.view.readAt (Elt F) (Rect.unit off s.size inb).toLoadRect (h.unread x) = x :=
  (View.readAt_full a.view _ inb).trans (h.read_unread x)

/-- A one-cell shape has one index. -/
theorem one_cell (x y : S1x1.Idx) : x = y := by
  idx_vars x; idx_vars y; congr 1 <;> omega

/-- A whole buffer owned at a value is its points-to at the contents that read so. -/
theorem owns_in (c : Thread nD τ) {sp : Space} {s : Shape} {e : EltTy} {a : Memref sig c.2.kind sp s e} (h : a.IsWhole) (x : s.Idx → Elt F e) :
    (owns c a fullShare x : sProp (MT nD τ sig (HIx 1) (Elt F) ℕ UU ℕ)) = (a.view.loc c ↦[a.view.set]{fullShare} h.unread x) := by
  have hl : (owns c a fullShare x : sProp (MT nD τ sig (HIx 1) (Elt F) ℕ UU ℕ)) ⊢ (a.view.loc c ↦[a.view.set]{fullShare} h.unread x) := by
    unfold owns
    iintro ⟨%f, %e, H⟩
    obtain rfl := h.eq_unread e
    iexact H
  have hr : (a.view.loc c ↦[a.view.set]{fullShare} h.unread x) ⊢ (owns c a fullShare x : sProp (MT nD τ sig (HIx 1) (Elt F) ℕ UU ℕ)) := by
    unfold owns
    iintro H
    iexists _
    isplitr
    · ipureintro; exact h.read_unread x
    · iexact H
  exact hl.antisymm hr

section Body

variable (c : Dev nD) (i : grid1.Coords)
  (a1 a2 a3 : Memref sig .tc .vmem S2048x128 .f32) (h1 : a1.IsWhole) (h2 : a2.IsWhole) (h3 : a3.IsWhole)
  (a4 a5 : Memref sig .tc .vmem S128x128 .f32) (h4 : a4.IsWhole) (h5 : a5.IsWhole)
  (a6 : Memref sig .tc .vmem S1x128 .f32) (h6 : a6.IsWhole) (a7 : Memref sig .tc .vmem S128x128 .f32) (h7 : a7.IsWhole)
  (a8 : Memref sig .tc .vmem S1x128 .f32) (h8 : a8.IsWhole) (a9 : Memref sig .tc .vmem S128x128 .f32) (h9 : a9.IsWhole)
  (a10 a11 : Memref sig .tc .vmem S1x128 .f32) (h10 : a10.IsWhole) (h11 : a11.IsWhole)
  (a12 : Memref sig .tc .smem S1x1 .f32) (h12 : a12.IsWhole)
  (a13 a14 : Memref sig .tc .vmem S2048x1 .f32) (h13 : a13.IsWhole) (h14 : a14.IsWhole)
  (a15 : Memref sig .tc .smem S1x1 .f32) (h15 : a15.IsWhole)
  (u p n : Vec F S2048x128 .f32) (wu wi : Vec F S128x128 .f32) (b0 : Vec F S1x128 .f32) (w1 : Vec F S128x128 .f32)
  (b1 : Vec F S1x128 .f32) (w2 : Vec F S128x128 .f32) (b2 vp : Vec F S1x128 .f32) (bp : Vec F S1x1 .f32)

/-- The twelve input buffers at their contents. -/
def ins : sProp (MT nD τ sig (HIx 1) (Elt F) ℕ UU ℕ) :=
  iprop(owns (c : Thread nD τ) a1 fullShare u ∗ owns (c : Thread nD τ) a2 fullShare p ∗ owns (c : Thread nD τ) a3 fullShare n
    ∗ owns (c : Thread nD τ) a4 fullShare wu ∗ owns (c : Thread nD τ) a5 fullShare wi ∗ owns (c : Thread nD τ) a6 fullShare b0
    ∗ owns (c : Thread nD τ) a7 fullShare w1 ∗ owns (c : Thread nD τ) a8 fullShare b1 ∗ owns (c : Thread nD τ) a9 fullShare w2
    ∗ owns (c : Thread nD τ) a10 fullShare b2 ∗ owns (c : Thread nD τ) a11 fullShare vp ∗ owns (c : Thread nD τ) a12 fullShare bp)

/-- What a load of the whole of an input buffer gives. -/
abbrev ld {s : Shape} {e : EltTy} {κ : Kind} {sp : Space} {a : Memref sig κ sp s e} (h : a.IsWhole) (x : s.Idx → Elt F e)
    {off : Fin s.rank → ℕ} (inb : ∀ a, off a + s.size a ≤ s.size a) : s.Idx → Elt F e :=
  a.view.readAt (Elt F) (Rect.unit off s.size inb).toLoadRect (h.unread x)

/-- The scalar load gives the cell. -/
theorem ld_cell (k : S1x1.Idx) : ld h12 bp inb_S1x1_S1x1_0_0 k = bp (ix2 0 0) :=
  (congrFun (get_whole h12 bp inb_S1x1_S1x1_0_0) _).trans (congrArg bp (one_cell _ _))

/-- The first score column over the loads is the one over the contents. -/
theorem pos_eq (k : S1x1.Idx) :
    k1_pay11 (k1_pay7 (ld h1 u inb_S2048x128_S2048x128_0_0) (ld h4 wu inb_S128x128_S128x128_0_0) (ld h6 b0 inb_S1x128_S1x128_0_0)
        (ld h2 p inb_S2048x128_S2048x128_0_0) (ld h5 wi inb_S128x128_S128x128_0_0) (ld h7 w1 inb_S128x128_S128x128_0_0) (ld h8 b1 inb_S1x128_S1x128_0_0))
      (Scalar.ofBits .f32 0x00000000#32) (ld h9 w2 inb_S128x128_S128x128_0_0) (ld h10 b2 inb_S1x128_S1x128_0_0) (ld h11 vp inb_S1x128_S1x128_0_0)
      (ld h12 bp inb_S1x1_S1x1_0_0 k) = posBlk u p wu wi b0 w1 b1 w2 b2 vp bp := by
  rw [ld_cell, ld, ld, ld, ld, ld, ld, ld, ld, ld, ld, get_whole h1, get_whole h2, get_whole h4, get_whole h5, get_whole h6, get_whole h7, get_whole h8, get_whole h9,
    get_whole h10, get_whole h11]
  rfl

/-- The second score column, likewise. -/
theorem neg_eq (k : S1x1.Idx) :
    k1_pay12 (k1_pay4 (ld h1 u inb_S2048x128_S2048x128_0_0) (ld h4 wu inb_S128x128_S128x128_0_0) (ld h6 b0 inb_S1x128_S1x128_0_0)
        (ld h3 n inb_S2048x128_S2048x128_0_0) (ld h5 wi inb_S128x128_S128x128_0_0)) (k1_pay5 (ld h7 w1 inb_S128x128_S128x128_0_0))
      (k1_pay6 (ld h8 b1 inb_S1x128_S1x128_0_0)) (ld h9 w2 inb_S128x128_S128x128_0_0) (ld h10 b2 inb_S1x128_S1x128_0_0)
      (ld h11 vp inb_S1x128_S1x128_0_0) (ld h12 bp inb_S1x1_S1x1_0_0 k) = negBlk u n wu wi b0 w1 b1 w2 b2 vp bp := by
  rw [ld_cell, ld, ld, ld, ld, ld, ld, ld, ld, ld, ld, get_whole h1, get_whole h3, get_whole h4, get_whole h5, get_whole h6, get_whole h7, get_whole h8, get_whole h9,
    get_whole h10, get_whole h11]
  rfl

/-- What the body at a point is given and what it makes of it: the inputs as they were, the outputs at the blocks'
    values, the running loss from `acc`. -/
def BodyRuns (acc : Elt F .f32) (d12 d13 : Vec F S2048x1 .f32) (d14 : Vec F S1x1 .f32) : Prop :=
  ∀ Q : PUnit → sProp (MT nD τ sig (HIx 1) (Elt F) ℕ UU ℕ),
    iprop(ins c a1 a2 a3 a4 a5 a6 a7 a8 a9 a10 a11 a12 u p n wu wi b0 w1 b1 w2 b2 vp bp
        ∗ owns (c : Thread nD τ) a13 fullShare d12 ∗ owns (c : Thread nD τ) a14 fullShare d13 ∗ owns (c : Thread nD τ) a15 fullShare d14
        ∗ ((ins c a1 a2 a3 a4 a5 a6 a7 a8 a9 a10 a11 a12 u p n wu wi b0 w1 b1 w2 b2 vp bp
            ∗ owns (c : Thread nD τ) a13 fullShare (posBlk u p wu wi b0 w1 b1 w2 b2 vp bp)
            ∗ owns (c : Thread nD τ) a14 fullShare (negBlk u n wu wi b0 w1 b1 w2 b2 vp bp)
            ∗ owns (c : Thread nD τ) a15 fullShare (lossBlk (posBlk u p wu wi b0 w1 b1 w2 b2 vp bp) (negBlk u n wu wi b0 w1 b1 w2 b2 vp bp) acc)) -∗ Q ⟨⟩))
      ⊢ wp frame (wpE (defs₀ (F := F)) 𝒱₀ (c : Thread nD τ) none) Set.univ
          (cc1__mlp_body i a1 h1 a2 h2 a3 h3 a4 h4 a5 h5 a6 h6 a7 h7 a8 h8 a9 h9 a10 h10 a11 h11 a12 h12 a13 h13 a14 h14 a15 h15) Q

set_option maxHeartbeats 2000000 in
/-- At the first point the running loss starts from zero. -/
theorem run_first (hf : first i) (d12 d13 : Vec F S2048x1 .f32) (d14 : Vec F S1x1 .f32) :
    BodyRuns c i a1 a2 a3 h1 h2 h3 a4 a5 h4 h5 a6 h6 a7 h7 a8 h8 a9 h9 a10 a11 h10 h11 a12 h12 a13 a14 h13 h14 a15 h15 u p n wu wi b0 w1 b1 w2 b2 vp bp
      (Scalar.ofBits .f32 0x00000000#32) d12 d13 d14 := by
  intro Q
  simp only [cc1__mlp_body_eq_skeleton]; unfold cc1__mlp_body_skel
  simp only [k1_part1_eq_skeleton, k1_part2_eq_skeleton]
  unfold ins
  rw [owns_in c h1, owns_in c h2, owns_in c h3, owns_in c h4, owns_in c h5, owns_in c h6, owns_in c h7, owns_in c h8, owns_in c h9,
    owns_in c h10, owns_in c h11, owns_in c h12]
  unfold owns
  iintro ⟨⟨H0, H1, H2, H3, H4, H5, H6, H7, H8, H9, H10, H11⟩, ⟨%f12, -, H12⟩, ⟨%f13, -, H13⟩, ⟨%f14, -, H14⟩, Hk⟩
  sl_exec (disch := first | sl_exact hf)
  sl_step
  iapply Hk
  isplitl [H0 H1 H2 H3 H4 H5 H6 H7 H8 H9 H10 H11]
  · sl_close
  isplitl [H12]
  · iexists _; isplitr
    swap; · iexact H12
    ipureintro
    exact (read_put a13.view f12 inb_S2048x1_S2048x1_0_0 _ []).trans (pos_eq _ _ h1 h2 _ _ h4 h5 _ h6 _ h7 _ h8 _ h9 _ _ h10 h11 _ h12 u p wu wi b0 w1 b1 w2 b2 vp bp _)
  isplitl [H13]
  · iexists _; isplitr
    swap; · iexact H13
    ipureintro
    exact (read_put a14.view f13 inb_S2048x1_S2048x1_0_0 _ []).trans (neg_eq _ _ h1 h3 _ _ h4 h5 _ h6 _ h7 _ h8 _ h9 _ _ h10 h11 _ h12 u n wu wi b0 w1 b1 w2 b2 vp bp _)
  iexists _; isplitr
  swap; · iexact H14
  ipureintro
  exact (read_put a15.view f14 inb_S1x1_S1x1_0_0 _ _).trans (congrArg₂ (fun x y => lossBlk x y (Scalar.ofBits .f32 0x00000000#32))
    (pos_eq _ _ h1 h2 _ _ h4 h5 _ h6 _ h7 _ h8 _ h9 _ _ h10 h11 _ h12 u p wu wi b0 w1 b1 w2 b2 vp bp _) (neg_eq _ _ h1 h3 _ _ h4 h5 _ h6 _ h7 _ h8 _ h9 _ _ h10 h11 _ h12 u n wu wi b0 w1 b1 w2 b2 vp bp _))

set_option maxHeartbeats 2000000 in
/-- At a later point it goes on from what the point before left. -/
theorem run_later (hf : ¬ first i) (d12 d13 : Vec F S2048x1 .f32) (d14 : Vec F S1x1 .f32) :
    BodyRuns c i a1 a2 a3 h1 h2 h3 a4 a5 h4 h5 a6 h6 a7 h7 a8 h8 a9 h9 a10 a11 h10 h11 a12 h12 a13 a14 h13 h14 a15 h15 u p n wu wi b0 w1 b1 w2 b2 vp bp
      (d14 (ix2 0 0)) d12 d13 d14 := by
  intro Q
  simp only [cc1__mlp_body_eq_skeleton]; unfold cc1__mlp_body_skel
  simp only [k1_part1_eq_skeleton, k1_part2_eq_skeleton]
  unfold ins
  rw [owns_in c h1, owns_in c h2, owns_in c h3, owns_in c h4, owns_in c h5, owns_in c h6, owns_in c h7, owns_in c h8, owns_in c h9,
    owns_in c h10, owns_in c h11, owns_in c h12, owns_in c h15 d14]
  unfold owns
  iintro ⟨⟨H0, H1, H2, H3, H4, H5, H6, H7, H8, H9, H10, H11⟩, ⟨%f12, -, H12⟩, ⟨%f13, -, H13⟩, H14, Hk⟩
  sl_exec (disch := first | sl_exact hf)
  sl_step
  iapply Hk
  isplitl [H0 H1 H2 H3 H4 H5 H6 H7 H8 H9 H10 H11]
  · sl_close
  isplitl [H12]
  · iexists _; isplitr
    swap; · iexact H12
    ipureintro
    exact (read_put a13.view f12 inb_S2048x1_S2048x1_0_0 _ []).trans (pos_eq _ _ h1 h2 _ _ h4 h5 _ h6 _ h7 _ h8 _ h9 _ _ h10 h11 _ h12 u p wu wi b0 w1 b1 w2 b2 vp bp _)
  isplitl [H13]
  · iexists _; isplitr
    swap; · iexact H13
    ipureintro
    exact (read_put a14.view f13 inb_S2048x1_S2048x1_0_0 _ []).trans (neg_eq _ _ h1 h3 _ _ h4 h5 _ h6 _ h7 _ h8 _ h9 _ _ h10 h11 _ h12 u n wu wi b0 w1 b1 w2 b2 vp bp _)
  iexists _; isplitr
  swap; · iexact H14
  ipureintro
  refine (read_put a15.view _ inb_S1x1_S1x1_0_0 _ _).trans ?_
  exact (congrArg (lossBlk _ _) (ld_cell _ h15 d14 _)).trans (congrArg₂ (fun x y => lossBlk x y (d14 (ix2 0 0)))
    (pos_eq _ _ h1 h2 _ _ h4 h5 _ h6 _ h7 _ h8 _ h9 _ _ h10 h11 _ h12 u p wu wi b0 w1 b1 w2 b2 vp bp _) (neg_eq _ _ h1 h3 _ _ h4 h5 _ h6 _ h7 _ h8 _ h9 _ _ h10 h11 _ h12 u n wu wi b0 w1 b1 w2 b2 vp bp _))

end Body

end Cert.Proof.ScI

end
-- ==== Proof.RegionI.lean ====
/-
  The MLP kernel's region: its proof data over the 8 grid points, at any contents `A` of the arrays when it is entered,
  and the region as one step of the program. After point `t` the score windows hold the block's columns and the loss
  window the sum over the blocks up to `t`.
-/
module

public import proofs.«01_k».proof.Proof.MlpI
public import Idealize.ShloMosaic.Lib.Pipeline.RegionsLoop

@[expose] public section

set_option maxRecDepth 16384

noncomputable section

namespace Cert.Proof.ScI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

variable (A : Arr F)

/-! ## The windows' blocks and what the body makes of them -/

/-- Window `w`'s block at point `t`, of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (A c (Pipeline.arrRef spec1 w))

/-- The positive scores of block `t`. -/
def posAt (c : Dev nD) (t : Fin cfg1.N) : Vec F S2048x1 .f32 :=
  posBlk (iblk A c 0 t) (iblk A c 1 t) (iblk A c 3 t) (iblk A c 4 t) (iblk A c 5 t) (iblk A c 6 t) (iblk A c 7 t) (iblk A c 8 t)
    (iblk A c 9 t) (iblk A c 10 t) (iblk A c 11 t)

/-- The negative scores of block `t`. -/
def negAt (c : Dev nD) (t : Fin cfg1.N) : Vec F S2048x1 .f32 :=
  negBlk (iblk A c 0 t) (iblk A c 2 t) (iblk A c 3 t) (iblk A c 4 t) (iblk A c 5 t) (iblk A c 6 t) (iblk A c 7 t) (iblk A c 8 t)
    (iblk A c 9 t) (iblk A c 10 t) (iblk A c 11 t)

/-- The loss of the blocks up to `n`. -/
def lossTo (c : Dev nD) : (n : ℕ) → n < cfg1.N → Vec F S1x1 .f32
  | 0, h => lossBlk (posAt A c ⟨0, h⟩) (negAt A c ⟨0, h⟩) (Scalar.ofBits .f32 0x00000000#32)
  | n + 1, h => lossBlk (posAt A c ⟨n + 1, h⟩) (negAt A c ⟨n + 1, h⟩) (lossTo c n (Nat.lt_of_succ_lt h) (ix2 0 0))

theorem lossTo_first (c : Dev nD) (t : Fin cfg1.N) (h : t.val % 8 = 0) :
    lossTo A c t.val t.isLt = lossBlk (posAt A c t) (negAt A c t) (Scalar.ofBits .f32 0x00000000#32) := by
  obtain ⟨n, hn⟩ := t
  have hN : n < 8 := lt_of_lt_of_eq hn N_1
  obtain rfl : n = 0 := by dsimp only at h; omega
  rfl

theorem lossTo_later (c : Dev nD) (t : Fin cfg1.N) (h : ¬ t.val % 8 = 0) :
    lossTo A c t.val t.isLt = lossBlk (posAt A c t) (negAt A c t)
      (lossTo A c (t.val - 1) (Nat.lt_of_le_of_lt (Nat.sub_le _ _) t.isLt) (ix2 0 0)) := by
  obtain ⟨n, hn⟩ := t
  cases n with
  | zero => exact absurd (Nat.zero_mod _) h
  | succ n => rfl

/-! ## The proof data -/

/-- The pairs of a cell of this core and an index that lie within the call's levels. -/
def within (c : Dev nD) : Set (SemLoc sig × HIx 1) := {p | (K (F := F)).lev (T c, p.1) p.2 ≤ 8}

/-- After the body each input's buffer holds its block, the outputs' the block's values. -/
def dat (c : Dev nD) : Dat τ (Elt F) (HIx 1) ℕ UU ℕ cfg1 c where
  A w := A c (Pipeline.arrRef spec1 w)
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => iblk A c 5 t
    | ⟨6, _⟩ => iblk A c 6 t
    | ⟨7, _⟩ => iblk A c 7 t
    | ⟨8, _⟩ => iblk A c 8 t
    | ⟨9, _⟩ => iblk A c 9 t
    | ⟨10, _⟩ => iblk A c 10 t
    | ⟨11, _⟩ => iblk A c 11 t
    | ⟨12, _⟩ => posAt A c t
    | ⟨13, _⟩ => negAt A c t
    | ⟨14, _⟩ => lossTo A c t.val t.isLt
  Φ _ := Pipeline.scopedRest spec1 c
  q _ := fullShare
  owed _ := 0
  recorded _ := within (F := F) c

theorem dat_A (c : Dev nD) (w : Fin cfg1.W) : (dat A c).A w = A c (Pipeline.arrRef spec1 w) := by
  dsimp only [dat]

/-- An input window's staging buffer holds at every point what a fetch there brings, if the body leaves it in place. -/
theorem before_in (c : Dev nD) (w : Fin cfg1.W) (hw : (cfg1.win w).isOut = false) (hl : ∀ i, cfg1.idle w i = false)
    (hc : ∀ t t', (cfg1.win w).clip t = (cfg1.win w).clip t')
    (hkeep : ∀ t, (cfg1.win w).cut (cfg1.grid.coords t) ((dat A c).after w t) = (dat A c).blockOf w t) (t : Fin cfg1.N) (d) :
    (dat A c).before w t d = (dat A c).fetched w t d :=
  (dat A c).before_in_eq_fetched w hw hl (fun _ _ _ => hc _ _) hkeep t d

/-- At a later point the loss window still holds what the point before left. -/
theorem before_loss (c : Dev nD) (t : Fin cfg1.N) (h : ¬ t.val % 8 = 0) (d) :
    (dat A c).before 14 t d = lossTo A c (t.val - 1) (Nat.lt_of_le_of_lt (Nat.sub_le _ _) t.isLt) := by
  have hN : t.val < 8 := lt_of_lt_of_eq t.isLt N_1
  rw [Dat.before_out_kept _ 14 rfl t (by omega)
    (Bool.eq_false_iff.mpr fun h => by have := (flush1_14 _).mp h; dsimp only at this; omega) (fun _ => rfl) (fun _ _ => rfl)]
  dsimp only [dat]

/-! ## The body at a point -/

/-- The twelve inputs at their blocks. -/
def insAt (c : Dev nD) (t : Fin cfg1.N) : sProp (MT nD τ sig (HIx 1) (Elt F) ℕ UU ℕ) :=
  ins c (st1_0 t) (st1_1 t) (st1_2 t) (st1_3 t) (st1_4 t) (st1_5 t) (st1_6 t) (st1_7 t) (st1_8 t) (st1_9 t) (st1_10 t) (st1_11 t)
    (iblk A c 0 t) (iblk A c 1 t) (iblk A c 2 t) (iblk A c 3 t) (iblk A c 4 t) (iblk A c 5 t) (iblk A c 6 t) (iblk A c 7 t)
    (iblk A c 8 t) (iblk A c 9 t) (iblk A c 10 t) (iblk A c 11 t)

theorem body_step (c : Dev nD) (t : Fin cfg1.N) (R : sProp (MT nD τ sig (HIx 1) (Elt F) ℕ UU ℕ)) :
    iprop(R ∗ insAt A c t ∗ (∃ d, owns (c : Thread nD τ) (st1_12 t) fullShare d) ∗ (∃ d, owns (c : Thread nD τ) (st1_13 t) fullShare d)
        ∗ (∃ d, owns (c : Thread nD τ) (st1_14 t) fullShare ((dat A c).before 14 t d)))
      ⊢ wp frame (wpE (defs₀ (F := F)) 𝒱₀ (c : Thread nD τ) none) Set.univ (bodyAt1 t) fun _ =>
          iprop(R ∗ insAt A c t ∗ owns (c : Thread nD τ) (st1_12 t) fullShare (posAt A c t)
            ∗ owns (c : Thread nD τ) (st1_13 t) fullShare (negAt A c t)
            ∗ owns (c : Thread nD τ) (st1_14 t) fullShare (lossTo A c t.val t.isLt)) := by
  have step : ∀ d12 d13 d14, iprop(R ∗ insAt A c t ∗ owns (c : Thread nD τ) (st1_12 t) fullShare d12
      ∗ owns (c : Thread nD τ) (st1_13 t) fullShare d13 ∗ owns (c : Thread nD τ) (st1_14 t) fullShare ((dat A c).before 14 t d14))
      ⊢ wp frame (wpE (defs₀ (F := F)) 𝒱₀ (c : Thread nD τ) none) Set.univ (bodyAt1 t) fun _ =>
          iprop(R ∗ insAt A c t ∗ owns (c : Thread nD τ) (st1_12 t) fullShare (posAt A c t)
            ∗ owns (c : Thread nD τ) (st1_13 t) fullShare (negAt A c t)
            ∗ owns (c : Thread nD τ) (st1_14 t) fullShare (lossTo A c t.val t.isLt)) := by
    intro d12 d13 d14
    unfold insAt bodyAt1
    by_cases h : t.val % 8 = 0
    · rw [lossTo_first A c t h]
      refine .trans ?_ (run_first c _ _ _ _ _ _ _ _ _ _ _ _ _ _ _ _ _ _ _ _ _ _ _ _ _ _ _ _ _ _ _
        (iblk A c 0 t) (iblk A c 1 t) (iblk A c 2 t) (iblk A c 3 t) (iblk A c 4 t) (iblk A c 5 t) (iblk A c 6 t) (iblk A c 7 t)
        (iblk A c 8 t) (iblk A c 9 t) (iblk A c 10 t) (iblk A c 11 t)
        ((first_iff t).mpr h) d12 d13 ((dat A c).before 14 t d14) _)
      unfold posAt negAt
      iintro ⟨HR, Hi, H1, H2, H3⟩
      isplitl [Hi]; · iexact Hi
      isplitl [H1]; · iexact H1
      isplitl [H2]; · iexact H2
      isplitl [H3]; · iexact H3
      iintro H
      isplitl [HR]; · iexact HR
      iexact H
    · rw [lossTo_later A c t h, before_loss A c t h d14]
      refine .trans ?_ (run_later c _ _ _ _ _ _ _ _ _ _ _ _ _ _ _ _ _ _ _ _ _ _ _ _ _ _ _ _ _ _ _
        (iblk A c 0 t) (iblk A c 1 t) (iblk A c 2 t) (iblk A c 3 t) (iblk A c 4 t) (iblk A c 5 t) (iblk A c 6 t) (iblk A c 7 t)
        (iblk A c 8 t) (iblk A c 9 t) (iblk A c 10 t) (iblk A c 11 t)
        (fun hf => h ((first_iff t).mp hf)) d12 d13 (lossTo A c (t.val - 1) (Nat.lt_of_le_of_lt (Nat.sub_le _ _) t.isLt)) _)
      unfold posAt negAt
      iintro ⟨HR, Hi, H1, H2, H3⟩
      isplitl [Hi]; · iexact Hi
      isplitl [H1]; · iexact H1
      isplitl [H2]; · iexact H2
      isplitl [H3]; · iexact H3
      iintro H
      isplitl [HR]; · iexact HR
      iexact H
  iintro ⟨HR, Hi, ⟨%d12, H1⟩, ⟨%d13, H2⟩, ⟨%d14, H3⟩⟩
  iapply (step d12 d13 d14)
  isplitl [HR]; · iexact HR
  isplitl [Hi]; · iexact Hi
  isplitl [H1]; · iexact H1
  isplitl [H2]; · iexact H2
  iexact H3

theorem body_row (t : Fin cfg1.N) : defs₀ (F := F) .tc cfg1.body (cfg1.bodyArgs t (cfg1.slots t)) = bodyAt1 t := rfl

set_option maxHeartbeats 1000000 in
/-- The body keeps the data's promise at every point. -/
theorem body_obligation (c : Dev nD) : BodyObligation (dat A c) (defs₀ (F := F)) 𝒱₀ none Set.univ := fun t => by
  rw [bigSep_W1, bigSep_W1, body_row]
  have e0 : ∀ d, (dat A c).before 0 t d = iblk A c 0 t := before_in A c 0 rfl (fun _ => rfl) (fun _ _ => rfl) (fun _ => rfl) t
  have e1 : ∀ d, (dat A c).before 1 t d = iblk A c 1 t := before_in A c 1 rfl (fun _ => rfl) (fun _ _ => rfl) (fun _ => rfl) t
  have e2 : ∀ d, (dat A c).before 2 t d = iblk A c 2 t := before_in A c 2 rfl (fun _ => rfl) (fun _ _ => rfl) (fun _ => rfl) t
  have e3 : ∀ d, (dat A c).before 3 t d = iblk A c 3 t := before_in A c 3 rfl (fun _ => rfl) (fun _ _ => rfl) (fun _ => rfl) t
  have e4 : ∀ d, (dat A c).before 4 t d = iblk A c 4 t := before_in A c 4 rfl (fun _ => rfl) (fun _ _ => rfl) (fun _ => rfl) t
  have e5 : ∀ d, (dat A c).before 5 t d = iblk A c 5 t := before_in A c 5 rfl (fun _ => rfl) (fun _ _ => rfl) (fun _ => rfl) t
  have e6 : ∀ d, (dat A c).before 6 t d = iblk A c 6 t := before_in A c 6 rfl (fun _ => rfl) (fun _ _ => rfl) (fun _ => rfl) t
  have e7 : ∀ d, (dat A c).before 7 t d = iblk A c 7 t := before_in A c 7 rfl (fun _ => rfl) (fun _ _ => rfl) (fun _ => rfl) t
  have e8 : ∀ d, (dat A c).before 8 t d = iblk A c 8 t := before_in A c 8 rfl (fun _ => rfl) (fun _ _ => rfl) (fun _ => rfl) t
  have e9 : ∀ d, (dat A c).before 9 t d = iblk A c 9 t := before_in A c 9 rfl (fun _ => rfl) (fun _ _ => rfl) (fun _ => rfl) t
  have e10 : ∀ d, (dat A c).before 10 t d = iblk A c 10 t := before_in A c 10 rfl (fun _ => rfl) (fun _ _ => rfl) (fun _ => rfl) t
  have e11 : ∀ d, (dat A c).before 11 t d = iblk A c 11 t := before_in A c 11 rfl (fun _ => rfl) (fun _ _ => rfl) (fun _ => rfl) t
  dsimp only
  simp only [e0, e1, e2, e3, e4, e5, e6, e7, e8, e9, e10, e11]
  refine triple_restated (body_step A c t iprop((dat A c).Φ t.castSucc ∗ (dat A c).owesAt none t.castSucc)) rfl ?_ fun _ => ?_
  · unfold insAt ins
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩⟩
    isplitl [HΦ Ho]; · isplitl [HΦ] <;> iassumption
    sl_close
  · rw [show (dat A c).Φ t.succ = (dat A c).Φ t.castSucc from rfl, show (dat A c).owesAt none t.succ = (dat A c).owesAt none t.castSucc from rfl]
    unfold insAt ins
    iintro ⟨⟨HΦ, Ho⟩, ⟨H0, H1, H2, H3, H4, H5, H6, H7, H8, H9, H10, H11⟩, H12, H13, H14⟩
    isplitl [HΦ]; · iexact HΦ
    isplitl [Ho]; · iexact Ho
    sl_close

/-! ## The region -/

/-- The pipelines' tables: none. -/
abbrev adm : (p : Fin 1) → (pcfgs (F := F) p).Adm := fun p => (cfgs p).toPCfg_adm

/-- The one region's data. -/
abbrev dats : (p : Fin 1) → (c : Dev nD) → Dat τ (Elt F) (HIx 1) ℕ UU ℕ (Pipeline.pin (pcfgs (F := F)) adm p) c :=
  fun _ c => dat A c

/-- The arrays the region leaves: the outputs at what was written back, the rest as it found it. -/
def leaves : Arr F := fun c =>
  Function.update (Function.update (Function.update (A c) main_v32_0 ((dat A c).arrAt 12 cfg1.N)) main_v32_1 ((dat A c).arrAt 13 cfg1.N))
    main_v32_2 ((dat A c).arrAt 14 cfg1.N)

theorem leaves_pos (c : Dev nD) : leaves A c main_v32_0 = (dat A c).arrAt 12 cfg1.N := by
  unfold leaves
  rw [Function.update_of_ne (by decide), Function.update_of_ne (by decide), Function.update_self]

theorem leaves_neg (c : Dev nD) : leaves A c main_v32_1 = (dat A c).arrAt 13 cfg1.N := by
  unfold leaves
  rw [Function.update_of_ne (by decide), Function.update_self]

theorem leaves_loss (c : Dev nD) : leaves A c main_v32_2 = (dat A c).arrAt 14 cfg1.N := by
  unfold leaves
  rw [Function.update_self]

theorem leaves_ne (c : Dev nD) (b : Ref sig .tc) (h0 : b ≠ main_v32_0) (h1 : b ≠ main_v32_1) (h2 : b ≠ main_v32_2) : leaves A c b = A c b := by
  unfold leaves
  rw [Function.update_of_ne h2, Function.update_of_ne h1, Function.update_of_ne h0]

/-- Every window's array at the end is the one the region leaves. -/
theorem arrAt_leaves (c : Dev nD) (w : Fin 15) : (dat A c).arrAt w cfg1.N = leaves A c (Pipeline.arrRef spec1 w) := by
  by_cases hw : w.val < 12
  · have hin : ∀ w : Fin 15, w.val < 12 → (cfg1.win w).isOut = false ∧ Pipeline.arrRef spec1 w ≠ main_v32_0
        ∧ Pipeline.arrRef spec1 w ≠ main_v32_1 ∧ Pipeline.arrRef spec1 w ≠ main_v32_2 := by decide
    obtain ⟨h, h0, h1, h2⟩ := hin w hw
    exact ((dat A c).arrAt_in w h _).trans (leaves_ne A c _ h0 h1 h2).symm
  · obtain ⟨n, hn⟩ := w
    obtain rfl | rfl | rfl : n = 12 ∨ n = 13 ∨ n = 14 := by dsimp only at hw; omega
    · exact (leaves_pos A c).symm
    · exact (leaves_neg A c).symm
    · exact (leaves_loss A c).symm

theorem bound_within (c : Dev nD) (t) {W : Waits sig (HIx 1)} (hW : ↑W ⊆ (dat A c).bound none t) : (K (F := F)).WBelow (T c) W 8 := by
  intro p hp
  rcases hW hp with h | ⟨w, s, rfl⟩
  · exact h
  · exact Nat.zero_le _

set_option backward.isDefEq.respectTransparency.types false in
/-- The region entered with the arrays at `A` and what it owes bounded, left with the arrays at `leaves A`. -/
def reg (R : Dev nD → sProp (MT nD τ sig (HIx 1) (Elt F) ℕ UU ℕ)) :
    Pipeline.RegionSeg (pcfgs (F := F)) adm (dats A) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation A c).loose
  hwaits := Pipeline.hwaits_of_owed_zero _ _ _ _ _ _ 0 fun _ _ => rfl
  pre c := iprop(unscopedBufs c (A c) ∗ R c ∗ ∃ W, ⌜(K (F := F)).WBelow (T c) W 8⌝ ∗ owes (c : Thread nD τ) (0 : CellTallies nD τ sig (HIx 1)) W)
  post c := iprop(unscopedBufs c (leaves A c) ∗ R c ∗ ∃ W, ⌜(K (F := F)).WBelow (T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (A c) ∗ R c)
  hentry c := by
    rw [Pipeline.ownSems0_none]
    have hsplit := Pipeline.arrays_of_unscopedBufs (p := 0) (pcfgs (F := F)) adm (dats A) launch1.win launch1.arr_whole c
      ((dats A 0 c).share_full fun _ => rfl) (A c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (dats A 0 c).Φ 0 = Pipeline.scopedRest spec1 c from rfl]
    iintro ⟨-, -, Hr⟩; iexact Hr
  hout c := by
    rw [Pipeline.ownSems0_none, show (dats A 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (dats A) ((dats A 0 c).share_full fun _ => rfl) (A c) (leaves A c) ((dats A 0 c).arrAt · cfg1.N)
      (arrAt_leaves A c)
      (fun b hb => leaves_ne A c b (fun h => hb (h ▸ Finset.mem_image.mpr ⟨12, Finset.mem_univ _, rfl⟩))
        (fun h => hb (h ▸ Finset.mem_image.mpr ⟨13, Finset.mem_univ _, rfl⟩)) (fun h => hb (h ▸ Finset.mem_image.mpr ⟨14, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr; · ipureintro; exact bound_within A c _ hW
    iexact HO

end Cert.Proof.ScI

end
-- ==== Proof.HostI.lean ====
/-
  The host operations of @main as three lines around the lookup and the region, and what every array of a device holds
  after each of them, as a function of the launch memory.
-/
module

public import proofs.«01_k».proof.Proof.RegionI
public import Idealize.ShloMosaic.Lib.StableHlo.RunRead

@[expose] public section

set_option maxRecDepth 16384

noncomputable section

namespace Cert.Proof.ScI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (seq after held)
open Idealize.ShloMosaic.Pipeline (ucRefs unscopedBufs_held)

variable {F : FTy → Type} [FloatOps F]

/-! ## The lines -/

/-- Before the lookup: the three index lists as 128 rows of 128. -/
def opsIn : List (HloOp τ sig (Elt F)) := [
  StableHlo.reshape main_arg0 main_v0 (rfl : (.i32 : EltTy) = .i32) shapeCasts_S16384_S128x128,
  StableHlo.reshape main_arg1 main_v1 (rfl : (.i32 : EltTy) = .i32) shapeCasts_S16384_S128x128,
  StableHlo.reshape main_arg2 main_v2 (rfl : (.i32 : EltTy) = .i32) shapeCasts_S16384_S128x128]

/-- Between the lookup and the region: the first layer's two halves, every later weight and bias padded with zeros to 128 lanes. -/
def opsPad : List (HloOp τ sig (Elt F)) := [
  StableHlo.unary main_arg5 main_v4 ((extractStridedSlice S128x128 ![0, 0] · slices_S256x128_S128x128_0_0) : (⟨S256x128, .f32⟩ : BufTy).Contents (Elt F) → (⟨S128x128, .f32⟩ : BufTy).Contents (Elt F)),
  StableHlo.unary main_arg5 main_v5 ((extractStridedSlice S128x128 ![128, 0] · slices_S256x128_S128x128_128_0) : (⟨S256x128, .f32⟩ : BufTy).Contents (Elt F) → (⟨S128x128, .f32⟩ : BufTy).Contents (Elt F)),
  StableHlo.reshape main_arg6 main_v6 (rfl : (.f32 : EltTy) = .f32) shapeCasts_S128_S1x128,
  StableHlo.nullary main_cst (constant S_ .f32 0x00000000#32),
  StableHlo.unary main_cst main_v7 (broadcastInDim S128x128 ![] bcast_S_S128x128 : (⟨S_, .f32⟩ : BufTy).Contents (Elt F) → (⟨S128x128, .f32⟩ : BufTy).Contents (Elt F)),
  StableHlo.nullary main_c (constantI S_ 32 0#32),
  StableHlo.unary main_c main_v8 (broadcastInDim S1 ![] bcast_S_S1 : (⟨S_, .i32⟩ : BufTy).Contents (Elt F) → (⟨S1, .i32⟩ : BufTy).Contents (Elt F)),
  StableHlo.ternary main_v7 main_v8 main_arg7 main_v9 ((fun x i u => Host.scatter scatter_S128x128_S1_S128x64_01_n_1_0 (fun _ b => b) x i u) : (⟨S128x128, .f32⟩ : BufTy).Contents (Elt F) → (⟨S1, .i32⟩ : BufTy).Contents (Elt F) → (⟨S128x64, .f32⟩ : BufTy).Contents (Elt F) → (⟨S128x128, .f32⟩ : BufTy).Contents (Elt F)),
  StableHlo.nullary main_cst_0 (constant S_ .f32 0x00000000#32),
  StableHlo.unary main_cst_0 main_v10 (broadcastInDim S1x128 ![] bcast_S_S1x128 : (⟨S_, .f32⟩ : BufTy).Contents (Elt F) → (⟨S1x128, .f32⟩ : BufTy).Contents (Elt F)),
  StableHlo.nullary main_c_1 (constantI S_ 32 0#32),
  StableHlo.unary main_c_1 main_v11 (broadcastInDim S1 ![] bcast_S_S1 : (⟨S_, .i32⟩ : BufTy).Contents (Elt F) → (⟨S1, .i32⟩ : BufTy).Contents (Elt F)),
  StableHlo.nullary main_c_2 (constantI S_ 32 0#32),
  StableHlo.unary main_c_2 main_v12 (broadcastInDim S1 ![] bcast_S_S1 : (⟨S_, .i32⟩ : BufTy).Contents (Elt F) → (⟨S1, .i32⟩ : BufTy).Contents (Elt F)),
  StableHlo.binary main_v11 main_v12 main_v13 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v10 main_v13 main_arg8 main_v14 ((fun x i u => Host.scatter scatter_S1x128_S2_S64_0_0_01_0 (fun _ b => b) x i u) : (⟨S1x128, .f32⟩ : BufTy).Contents (Elt F) → (⟨S2, .i32⟩ : BufTy).Contents (Elt F) → (⟨S64, .f32⟩ : BufTy).Contents (Elt F) → (⟨S1x128, .f32⟩ : BufTy).Contents (Elt F)),
  StableHlo.nullary main_cst_3 (constant S_ .f32 0x00000000#32),
  StableHlo.unary main_cst_3 main_v15 (broadcastInDim S128x128 ![] bcast_S_S128x128 : (⟨S_, .f32⟩ : BufTy).Contents (Elt F) → (⟨S128x128, .f32⟩ : BufTy).Contents (Elt F)),
  StableHlo.nullary main_c_4 (constantI S_ 32 0#32),
  StableHlo.unary main_c_4 main_v16 (broadcastInDim S1 ![] bcast_S_S1 : (⟨S_, .i32⟩ : BufTy).Contents (Elt F) → (⟨S1, .i32⟩ : BufTy).Contents (Elt F)),
  StableHlo.nullary main_c_5 (constantI S_ 32 0#32),
  StableHlo.unary main_c_5 main_v17 (broadcastInDim S1 ![] bcast_S_S1 : (⟨S_, .i32⟩ : BufTy).Contents (Elt F) → (⟨S1, .i32⟩ : BufTy).Contents (Elt F)),
  StableHlo.binary main_v16 main_v17 main_v18 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v15 main_v18 main_arg9 main_v19 ((fun x i u => Host.scatter scatter_S128x128_S2_S64x32_01_n_01_0 (fun _ b => b) x i u) : (⟨S128x128, .f32⟩ : BufTy).Contents (Elt F) → (⟨S2, .i32⟩ : BufTy).Contents (Elt F) → (⟨S64x32, .f32⟩ : BufTy).Contents (Elt F) → (⟨S128x128, .f32⟩ : BufTy).Contents (Elt F)),
  StableHlo.nullary main_cst_6 (constant S_ .f32 0x00000000#32),
  StableHlo.unary main_cst_6 main_v20 (broadcastInDim S1x128 ![] bcast_S_S1x128 : (⟨S_, .f32⟩ : BufTy).Contents (Elt F) → (⟨S1x128, .f32⟩ : BufTy).Contents (Elt F)),
  StableHlo.nullary main_c_7 (constantI S_ 32 0#32),
  StableHlo.unary main_c_7 main_v21 (broadcastInDim S1 ![] bcast_S_S1 : (⟨S_, .i32⟩ : BufTy).Contents (Elt F) → (⟨S1, .i32⟩ : BufTy).Contents (Elt F)),
  StableHlo.nullary main_c_8 (constantI S_ 32 0#32),
  StableHlo.unary main_c_8 main_v22 (broadcastInDim S1 ![] bcast_S_S1 : (⟨S_, .i32⟩ : BufTy).Contents (Elt F) → (⟨S1, .i32⟩ : BufTy).Contents (Elt F)),
  StableHlo.binary main_v21 main_v22 main_v23 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v20 main_v23 main_arg10 main_v24 ((fun x i u => Host.scatter scatter_S1x128_S2_S32_0_0_01_0 (fun _ b => b) x i u) : (⟨S1x128, .f32⟩ : BufTy).Contents (Elt F) → (⟨S2, .i32⟩ : BufTy).Contents (Elt F) → (⟨S32, .f32⟩ : BufTy).Contents (Elt F) → (⟨S1x128, .f32⟩ : BufTy).Contents (Elt F)),
  StableHlo.nullary main_cst_9 (constant S_ .f32 0x00000000#32),
  StableHlo.unary main_cst_9 main_v25 (broadcastInDim S1x128 ![] bcast_S_S1x128 : (⟨S_, .f32⟩ : BufTy).Contents (Elt F) → (⟨S1x128, .f32⟩ : BufTy).Contents (Elt F)),
  StableHlo.reshape main_arg11 main_v26 (rfl : (.f32 : EltTy) = .f32) shapeCasts_S32x1_S32,
  StableHlo.nullary main_c_10 (constantI S_ 32 0#32),
  StableHlo.unary main_c_10 main_v27 (broadcastInDim S1 ![] bcast_S_S1 : (⟨S_, .i32⟩ : BufTy).Contents (Elt F) → (⟨S1, .i32⟩ : BufTy).Contents (Elt F)),
  StableHlo.nullary main_c_11 (constantI S_ 32 0#32),
  StableHlo.unary main_c_11 main_v28 (broadcastInDim S1 ![] bcast_S_S1 : (⟨S_, .i32⟩ : BufTy).Contents (Elt F) → (⟨S1, .i32⟩ : BufTy).Contents (Elt F)),
  StableHlo.binary main_v27 main_v28 main_v29 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.ternary main_v25 main_v29 main_v26 main_v30 ((fun x i u => Host.scatter scatter_S1x128_S2_S32_0_0_01_0 (fun _ b => b) x i u) : (⟨S1x128, .f32⟩ : BufTy).Contents (Elt F) → (⟨S2, .i32⟩ : BufTy).Contents (Elt F) → (⟨S32, .f32⟩ : BufTy).Contents (Elt F) → (⟨S1x128, .f32⟩ : BufTy).Contents (Elt F)),
  StableHlo.reshape main_arg12 main_v31 (rfl : (.f32 : EltTy) = .f32) shapeCasts_S1_S1x1]

/-- After the region: the outputs as vectors and a scalar. -/
def opsOut : List (HloOp τ sig (Elt F)) := [
  StableHlo.reshape main_v32_0 main_v33 (rfl : (.f32 : EltTy) = .f32) shapeCasts_S16384x1_S16384,
  StableHlo.reshape main_v32_1 main_v34 (rfl : (.f32 : EltTy) = .f32) shapeCasts_S16384x1_S16384,
  StableHlo.reshape main_v32_2 main_v35 (rfl : (.f32 : EltTy) = .f32) shapeCasts_S1x1_S_]

/-- @main is the three lines around the two calls. -/
theorem main_lines (d : Dev nD) : main (F := F) d = seq opsIn >>= fun _ => sc.run d 0 >>= fun _ => seq opsPad >>= fun _ =>
    Prog.lift (.customCall (SparseCore.inner (Pipeline.entry 0)) ()) >>= fun _ => seq opsOut := by
  simp only [main, opsIn, opsPad, opsOut, seq, bind_assoc, pure_bind]

theorem opsIn_sub : (opsIn (F := F)).Forall fun op => op.bufs ⊆ StableHlo.tcRefs τ sig := by
  simp only [opsIn, List.Forall, StableHlo.reshape_bufs_sub, and_self]
theorem opsPad_sub : (opsPad (F := F)).Forall fun op => op.bufs ⊆ StableHlo.tcRefs τ sig := by
  simp only [opsPad, List.Forall, StableHlo.nullary_bufs_sub, StableHlo.unary_bufs_sub, StableHlo.binary_bufs_sub, StableHlo.ternary_bufs_sub,
    StableHlo.reshape_bufs_sub, and_self]
theorem opsOut_sub : (opsOut (F := F)).Forall fun op => op.bufs ⊆ StableHlo.tcRefs τ sig := by
  simp only [opsOut, List.Forall, StableHlo.reshape_bufs_sub, and_self]

theorem opsIn_fresh : (opsIn (F := F)).Forall fun op => op.fresh = ∅ := StableHlo.forall_fresh_of_map rfl
theorem opsPad_fresh : (opsPad (F := F)).Forall fun op => op.fresh = ∅ := StableHlo.forall_fresh_of_map rfl
theorem opsOut_fresh : (opsOut (F := F)).Forall fun op => op.fresh = ∅ := StableHlo.forall_fresh_of_map rfl

/-! ## The contents between the lines -/

variable (m : (ℓ : Loc nD τ sig) → Buf (Elt F) ℓ)

/-- A device's contents with three arrays' replaced. -/
def put (V : Valuation τ sig (Elt F)) (a b c : Ref sig .tc) (x : (Proc.devRef (τ := τ) .tc a).ty.Contents (Elt F))
    (y : (Proc.devRef (τ := τ) .tc b).ty.Contents (Elt F)) (z : (Proc.devRef (τ := τ) .tc c).ty.Contents (Elt F)) : Valuation τ sig (Elt F) :=
  Function.update (Function.update (Function.update V (Proc.devRef .tc a) x) (Proc.devRef .tc b) y) (Proc.devRef .tc c) z

theorem put_ne (V : Valuation τ sig (Elt F)) (a b c : Ref sig .tc) (x y z) (r : Ref sig .tc) (ha : r ≠ a) (hb : r ≠ b) (hc : r ≠ c) :
    put V a b c x y z (Proc.devRef .tc r) = V (Proc.devRef .tc r) := by
  unfold put
  rw [Function.update_of_ne (fun h => hc (Proc.devRef_injective _ h)), Function.update_of_ne (fun h => hb (Proc.devRef_injective _ h)),
    Function.update_of_ne (fun h => ha (Proc.devRef_injective _ h))]

theorem put_thd (V : Valuation τ sig (Elt F)) (a b c : Ref sig .tc) (x y z) : put V a b c x y z (Proc.devRef .tc c) = z := by
  unfold put
  rw [Function.update_self]

theorem put_snd (V : Valuation τ sig (Elt F)) (a b c : Ref sig .tc) (x y z) (hc : b ≠ c) : put V a b c x y z (Proc.devRef .tc b) = y := by
  unfold put
  rw [Function.update_of_ne (fun h => hc (Proc.devRef_injective _ h)), Function.update_self]

theorem put_fst (V : Valuation τ sig (Elt F)) (a b c : Ref sig .tc) (x y z) (hb : a ≠ b) (hc : a ≠ c) : put V a b c x y z (Proc.devRef .tc a) = x := by
  unfold put
  rw [Function.update_of_ne (fun h => hc (Proc.devRef_injective _ h)), Function.update_of_ne (fun h => hb (Proc.devRef_injective _ h)),
    Function.update_self]

/-- At the lookup: the index lists reshaped. -/
def V1 (d : Dev nD) : Valuation τ sig (Elt F) := after opsIn fun b => m (d, b)
/-- The same by reference. -/
def atCall : Arr F := fun d b => V1 m d (Proc.devRef .tc b)
/-- After the lookup: the three gathered tables. -/
def V2 (d : Dev nD) : Valuation τ sig (Elt F) := put (V1 m d) main_v3_0 main_v3_1 main_v3_2 (eu (atCall m) d) (ep (atCall m) d) (en (atCall m) d)
/-- At the region: the weights padded. -/
def V3 (d : Dev nD) : Valuation τ sig (Elt F) := after opsPad (V2 m d)
/-- The same by reference. -/
def atRegion : Arr F := fun d b => V3 m d (Proc.devRef .tc b)
/-- After the region: its three outputs. -/
def V4 (d : Dev nD) : Valuation τ sig (Elt F) := put (V3 m d) main_v32_0 main_v32_1 main_v32_2 ((dat (atRegion m) d).arrAt 12 cfg1.N)
  ((dat (atRegion m) d).arrAt 13 cfg1.N) ((dat (atRegion m) d).arrAt 14 cfg1.N)
/-- At the end. -/
def V5 (d : Dev nD) : Valuation τ sig (Elt F) := after opsOut (V4 m d)

theorem V4_leaves (d : Dev nD) (b : Ref sig .tc) : leaves (atRegion m) d b = V4 m d (Proc.devRef .tc b) := by
  unfold V4
  by_cases h2 : b = main_v32_2
  · subst h2; rw [leaves_loss, put_thd]
  by_cases h1 : b = main_v32_1
  · subst h1; rw [leaves_neg, put_snd _ _ _ _ _ _ _ (by decide)]
  by_cases h0 : b = main_v32_0
  · subst h0; rw [leaves_pos, put_fst _ _ _ _ _ _ _ (by decide) (by decide)]
  rw [leaves_ne _ d b h0 h1 h2, put_ne _ _ _ _ _ _ _ b h0 h1 h2]
  rfl

/-! ## What the lines leave alone -/

/-- What the operations before the lookup write. -/
def outsIn : List (Ref sig .tc) := [main_v0, main_v1, main_v2]
/-- What the operations between the calls write. -/
def outsPad : List (Ref sig .tc) := [main_v4, main_v5, main_v6, main_cst, main_v7, main_c, main_v8, main_v9, main_cst_0, main_v10, main_c_1,
  main_v11, main_c_2, main_v12, main_v13, main_v14, main_cst_3, main_v15, main_c_4, main_v16, main_c_5, main_v17, main_v18, main_v19,
  main_cst_6, main_v20, main_c_7, main_v21, main_c_8, main_v22, main_v23, main_v24, main_cst_9, main_v25, main_v26, main_c_10, main_v27,
  main_c_11, main_v28, main_v29, main_v30, main_v31]
/-- What the operations after the region write. -/
def outsOut : List (Ref sig .tc) := [main_v33, main_v34, main_v35]

theorem V1_ne (d : Dev nD) (r : Ref sig .tc) (h : r ∉ outsIn) : V1 m d (Proc.devRef .tc r) = m (d, Proc.devRef .tc r) :=
  StableHlo.after_of_writes_sub _ _ (StableHlo.forall_writes_sub_of_map (W := outsIn) rfl) h
theorem V3_ne (d : Dev nD) (r : Ref sig .tc) (h : r ∉ outsPad) : V3 m d (Proc.devRef .tc r) = V2 m d (Proc.devRef .tc r) :=
  StableHlo.after_of_writes_sub _ _ (StableHlo.forall_writes_sub_of_map (W := outsPad) rfl) h
theorem V5_ne (d : Dev nD) (r : Ref sig .tc) (h : r ∉ outsOut) : V5 m d (Proc.devRef .tc r) = V4 m d (Proc.devRef .tc r) :=
  StableHlo.after_of_writes_sub _ _ (StableHlo.forall_writes_sub_of_map (W := outsOut) rfl) h

/-- Everything written on the way. -/
def written : List (Ref sig .tc) := outsIn ++ [main_v3_0, main_v3_1, main_v3_2] ++ outsPad ++ [main_v32_0, main_v32_1, main_v32_2] ++ outsOut

/-- What is written nowhere on the way ends as it began. -/
theorem V5_kept (d : Dev nD) (r : Ref sig .tc) (h : r ∉ written) : V5 m d (Proc.devRef .tc r) = m (d, Proc.devRef .tc r) := by
  simp only [written, List.mem_append, List.mem_cons, List.not_mem_nil, or_false, not_or] at h
  obtain ⟨⟨⟨⟨hi, h30, h31, h32⟩, hp⟩, h0, h1, h2⟩, ho⟩ := h
  rw [V5_ne m d r ho]; unfold V4
  rw [put_ne _ _ _ _ _ _ _ r h0 h1 h2, V3_ne m d r hp]; unfold V2
  rw [put_ne _ _ _ _ _ _ _ r h30 h31 h32, V1_ne m d r hi]

end Cert.Proof.ScI

end
-- ==== Proof.RunI.lean ====
/-
  The run of the whole program: @main from the launch memory through the lookup and the region, every array of a device
  at the contents Host.lean names, and every semaphore back at zero.
-/
module

public import proofs.«01_k».proof.Proof.HostI
public import Idealize.ShloMosaic.Lib.SparseCore.Quiescent

@[expose] public section

set_option maxRecDepth 16384

noncomputable section

namespace Cert.Proof.ScI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held)
open Idealize.ShloMosaic.Pipeline (ucRefs unscopedBufs_held)

variable {F : FTy → Type} [FloatOps F]

/-- The resources the proof is about. -/
abbrev Pr (F : FTy → Type) : Type := sProp (MT nD τ sig (HIx 1) (Elt F) ℕ UU ℕ)

/-! ## The launch's ghost state -/

/-- The pipeline's rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-- What the launch starts with: both families of rounds unplayed. -/
def u₀ : UU := (initOf (K (F := F)).hsCells (K (F := F)).hsToks,
  (initOf (Pipeline.cells cfgs cellOf_inj) (Pipeline.launchToks cfgs cellOf_inj), 1))

/-- The pipeline's cells and tokens on one core. -/
abbrev G (c : Dev nD) : Pr F := iprop(Pipeline.cellsGhost cfgs EP 0 c ∗ Pipeline.toksInit cfgs EP 0 c)

theorem split_u (a : UH) (b : UP) (e : Counters) : (ownU ((a, (b, e)) : UU) : Pr F) ⊢ iprop(BI.own (EH a) ∗ BI.own (EP b)) := by
  have h1 : (ownU ((a, (b, e)) : UU) : Pr F) ⊢ iprop(BI.own (EH a) ∗ ownU ((1, (b, e)) : UU)) :=
    BI.own_op_elim ((uEmb (nD := nD) (sig := sig) (τ := τ) (Ix := HIx 1) (Val := Elt F) (Name := ℕ) (U := UU) (Lvl := ℕ)).toEmb.op_of_mem
      (Prod.mk_mem_op (URA.mem_op_one a) (URA.mem_one_op (b, e))))
  have h2 : (ownU ((1, (b, e)) : UU) : Pr F) ⊢ iprop(BI.own (EP (F := F) b) ∗ ownU ((1, (1, e)) : UU)) :=
    BI.own_op_elim ((uEmb (nD := nD) (sig := sig) (τ := τ) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op e))))
  exact h1.trans (sep_mono_right (h2.trans sep_elim_left))

variable (A : Arr F)

theorem hu₀ : (ownU (u₀ (F := F)) : Pr F)
    ⊢ |={Set.univ}=> iprop(BI.own (EH (initOf (K (F := F)).hsCells (K (F := F)).hsToks)) ∗ (bigSep Finset.univ fun c : Dev nD => G c)
        ∗ bigSep Finset.univ fun thr : Thread nD τ => bigSep Finset.univ fun q : Fin 1 => (P A).x q thr) := by
  unfold u₀
  iintro Hu
  ihave H := (split_u (initOf (K (F := F)).hsCells (K (F := F)).hsToks) (initOf (Pipeline.cells cfgs cellOf_inj) (Pipeline.launchToks cfgs cellOf_inj)) 1) $$ Hu
  icases H with ⟨HH, HP⟩
  ihave H := (Pipeline.fund_ghost cfgs EP cellOf_inj) $$ HP
  imod H
  icases H with ⟨Hc, Ht⟩
  imodintro
  isplitl [HH]; · iexact HH
  isplitl [Hc Ht]
  · rw [BI.bigSep_sep']
    isplitl [Hc]
    · rw [show (bigSep Finset.univ fun c : Dev nD => Pipeline.cellsGhost cfgs (EP (F := F)) 0 c)
        = bigSep Finset.univ fun c : Dev nD => bigSep Finset.univ fun p : Fin 1 => Pipeline.cellsGhost cfgs (EP (F := F)) p c from
        bigSep_congr fun c _ => (BI.bigSep_univ_of_subsingleton (Φ := fun p : Fin 1 => Pipeline.cellsGhost cfgs (EP (F := F)) p c) (0 : Fin 1)).symm]
      iexact Hc
    · rw [show (bigSep Finset.univ fun c : Dev nD => Pipeline.toksInit cfgs (EP (F := F)) 0 c)
        = bigSep Finset.univ fun c : Dev nD => bigSep Finset.univ fun p : Fin 1 => Pipeline.toksInit cfgs (EP (F := F)) p c from
        bigSep_congr fun c _ => (BI.bigSep_univ_of_subsingleton (Φ := fun p : Fin 1 => (Pipeline.toksInit cfgs (EP (F := F)) p c : Pr F)) (0 : Fin 1)).symm]
      iexact Ht
  rw [show (bigSep Finset.univ fun thr : Thread nD τ => bigSep Finset.univ fun q : Fin 1 => (P A).x q thr) = bigSep Finset.univ fun _ => (BI.emp : Pr F) from
    bigSep_congr fun _ _ => BI.bigSep_univ_of_subsingleton (0 : Fin 1), bigSep_emp_const]
  iempintro

/-! ## @main on the TensorCore -/

variable (m : (ℓ : Loc nD τ sig) → Buf (Elt F) ℓ) (ρ : Dev nD → PrngReg)

/-- The arrays of the lookup. -/
def scRefs : Finset (DevRef τ sig) :=
  {Proc.devRef .tc main_v0, Proc.devRef .tc main_v1, Proc.devRef .tc main_v2, Proc.devRef .tc main_arg3, Proc.devRef .tc main_arg4,
    Proc.devRef .tc main_v3_0, Proc.devRef .tc main_v3_1, Proc.devRef .tc main_v3_2}

theorem held_sc (d : Dev nD) (W : Valuation τ sig (Elt F)) : (held (T d) scRefs W : Pr F)
    = iprop((ℓr d main_v0 ↦{fullShare} W (Proc.devRef .tc main_v0)) ∗ (ℓr d main_v1 ↦{fullShare} W (Proc.devRef .tc main_v1))
      ∗ (ℓr d main_v2 ↦{fullShare} W (Proc.devRef .tc main_v2)) ∗ (ℓr d main_arg3 ↦{fullShare} W (Proc.devRef .tc main_arg3))
      ∗ (ℓr d main_arg4 ↦{fullShare} W (Proc.devRef .tc main_arg4)) ∗ (ℓr d main_v3_0 ↦{fullShare} W (Proc.devRef .tc main_v3_0))
      ∗ (ℓr d main_v3_1 ↦{fullShare} W (Proc.devRef .tc main_v3_1)) ∗ ℓr d main_v3_2 ↦{fullShare} W (Proc.devRef .tc main_v3_2)) := by
  unfold held scRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem scRefs_sub : scRefs ⊆ ucRefs τ sig := by decide

/-- Into the lookup. -/
theorem into_sc (d : Dev nD) : (held (T d) (ucRefs τ sig) (V1 m d) : Pr F)
    ⊢ iprop(scP (atCall m) d (atCall m d main_v3_0) (atCall m d main_v3_1) (atCall m d main_v3_2)
      ∗ held (T d) (ucRefs τ sig \ scRefs) (V1 m d)) := by
  rw [StableHlo.held_sub_split (T d) scRefs_sub, held_sc]
  iintro ⟨⟨H0, H1, H2, H3, H4, H5, H6, H7⟩, Hr⟩
  isplitr [Hr]
  · isplitl [H0 H1 H2 H3 H4]
    · isplitl [H0]; · iexact H0
      isplitl [H1]; · iexact H1
      isplitl [H2]; · iexact H2
      isplitl [H3]; · iexact H3
      iexact H4
    · isplitl [H5]; · iexact H5
      isplitl [H6]; · iexact H6
      iexact H7
  iexact Hr

theorem V2_v3_0 (d : Dev nD) : V2 m d (Proc.devRef .tc main_v3_0) = eu (atCall m) d := by
  unfold V2; rw [put_fst _ _ _ _ _ _ _ (by decide) (by decide)]
theorem V2_v3_1 (d : Dev nD) : V2 m d (Proc.devRef .tc main_v3_1) = ep (atCall m) d := by
  unfold V2; rw [put_snd _ _ _ _ _ _ _ (by decide)]
theorem V2_v3_2 (d : Dev nD) : V2 m d (Proc.devRef .tc main_v3_2) = en (atCall m) d := by
  unfold V2; rw [put_thd]
theorem V2_ne (d : Dev nD) (r : Ref sig .tc) (h0 : r ≠ main_v3_0) (h1 : r ≠ main_v3_1) (h2 : r ≠ main_v3_2) :
    V2 m d (Proc.devRef .tc r) = V1 m d (Proc.devRef .tc r) := by
  unfold V2; rw [put_ne _ _ _ _ _ _ _ r h0 h1 h2]

/-- Out of the lookup. -/
theorem out_of_sc (d : Dev nD) : iprop(scP (atCall m) d (eu (atCall m) d) (ep (atCall m) d) (en (atCall m) d)
      ∗ held (T d) (ucRefs τ sig \ scRefs) (V1 m d)) ⊢ (held (T d) (ucRefs τ sig) (V2 m d) : Pr F) := by
  have hrest : (held (T d) (ucRefs τ sig \ scRefs) (V1 m d) : Pr F) = held (T d) (ucRefs τ sig \ scRefs) (V2 m d) := by
    refine StableHlo.held_congr _ fun b hb => ?_
    have hb' := (Finset.mem_sdiff.mp hb).2
    simp only [scRefs, Finset.mem_insert, Finset.mem_singleton, not_or] at hb'
    unfold V2 put
    rw [Function.update_of_ne hb'.2.2.2.2.2.2.2, Function.update_of_ne hb'.2.2.2.2.2.2.1, Function.update_of_ne hb'.2.2.2.2.2.1]
  rw [StableHlo.held_sub_split (T d) scRefs_sub (V2 m d), held_sc, hrest, V2_v3_0, V2_v3_1, V2_v3_2,
    V2_ne m d main_v0 (by decide) (by decide) (by decide), V2_ne m d main_v1 (by decide) (by decide) (by decide),
    V2_ne m d main_v2 (by decide) (by decide) (by decide), V2_ne m d main_arg3 (by decide) (by decide) (by decide),
    V2_ne m d main_arg4 (by decide) (by decide) (by decide)]
  iintro ⟨⟨⟨H0, H1, H2, H3, H4⟩, H5, H6, H7⟩, Hr⟩
  isplitr [Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hr

/-- What @main leaves on a device: every array at the end's contents. -/
abbrev FIN (d : Dev nD) : Pr F := held (T d) (ucRefs τ sig) (V5 m d)

/-- One line of host operations, whatever comes next. -/
theorem line (d : Dev nD) (ops : List (HloOp τ sig (Elt F))) (hs : ops.Forall fun op => op.bufs ⊆ StableHlo.tcRefs τ sig)
    (hf : ops.Forall fun op => op.fresh = ∅) (W : Valuation τ sig (Elt F))
    {β : Type} (k : PUnit → Prog (TpuEff nD τ sig (Elt F) (SparseCore.Sig (ΛP (F := F)) 1) .tc) β) (Q : β → Pr F) :
    iprop(boundary (T d) ∗ held (T d) (ucRefs τ sig) W)
      ⊢ iprop(((boundary (T d) ∗ held (T d) (ucRefs τ sig) (after ops W))
          -∗ wp frame (wpE ((K (F := F)).defs (D (F := F))) 𝒱 (T d) none) Set.univ (k ⟨⟩) Q)
        -∗ wp frame (wpE ((K (F := F)).defs (D (F := F))) 𝒱 (T d) none) Set.univ (seq ops >>= k) Q) :=
  StableHlo.wp_seq 𝒱 none Set.univ d (ucRefs τ sig) k ops (fun op h => Pipeline.sub_ucRefs op (List.forall_iff_forall_mem.mp hs op h))
    (fun op h => List.forall_iff_forall_mem.mp hf op h) W

set_option backward.isDefEq.respectTransparency.types false in
/-- The region, from the arrays at `B` and the bounded tally, under the launch's body table. -/
theorem region (B : Arr F) (d : Dev nD) (Q : PUnit → Pr F) :
    iprop((iprop(boundary (T d) ∗ unscopedBufs d (leaves B d) ∗ (∃ W, ⌜(K (F := F)).WBelow (T d) W 8⌝ ∗ owes (T d) (0 : CellTallies nD τ sig (HIx 1)) W)) -∗ Q ⟨⟩)
        ∗ boundary (T d) ∗ unscopedBufs d (B d) ∗ (∃ W, ⌜(K (F := F)).WBelow (T d) W 8⌝ ∗ owes (T d) (0 : CellTallies nD τ sig (HIx 1)) W)
        ∗ levAts (K (F := F)).L (K (F := F)).lev ∗ G d)
      ⊢ wp frame (wpE ((K (F := F)).defs (D (F := F))) 𝒱 (T d) none) Set.univ
          (Prog.lift (.customCall (SparseCore.inner (Pipeline.entry 0)) ())) Q := by
  have hl := (K (F := F)).wp_liftProg (D (F := F)) 𝒱 (T d) Set.univ none (.op (.customCall (Pipeline.entry 0) ()) .ret) Q
  have hr := Pipeline.RegionSeg.wp (pcfgs (F := F)) adm (dats B) none cellOf_inj EP (defs₀ (F := F)) 𝒱₀ (K (F := F)).L (K (F := F)).lev
    (reg B fun _ => BI.emp) d none (fun _ h => nomatch h) .ret Q
  rw [SparseCore.liftProg_op] at hl
  rw [show (Prog.lift (.customCall (SparseCore.inner (Pipeline.entry 0)) ()) : Prog (TpuEff nD τ sig (Elt F) (SparseCore.Sig (ΛP (F := F)) 1) .tc) PUnit)
    = Prog.op (TpuEff.customCall (Pipeline.entry 0) () : TpuEff nD τ sig (Elt F) (ΛP (F := F)) .tc PUnit).inl fun x => SparseCore.liftProg (.ret x) from rfl]
  refine .trans ?_ (hr.trans hl)
  iintro ⟨Hk, Hb, Hu, HO, Hl, Hc, Ht⟩
  isplitl [Hk]
  · iintro ⟨Hb, Hp⟩
    rw [wp_ret]
    imodintro
    iapply Hk
    unfold reg
    icases Hp with ⟨Hu, -, HO⟩
    isplitl [Hb]; · iexact Hb
    isplitl [Hu] <;> iassumption
  isplitl [Hb]; · iexact Hb
  isplitl [Hu HO]
  · unfold reg
    isplitl [Hu]; · iexact Hu
    isplitr; · iempintro
    iexact HO
  isplitl [Hl]; · iexact Hl
  isplitl [Hc] <;> iassumption

/-- The arrays in the open at one valuation, in either spelling. -/
theorem open_held (d : Dev nD) (W : Valuation τ sig (Elt F)) :
    (unscopedBufs d (fun b => W (Proc.devRef .tc b)) : Pr F) = held (T d) (ucRefs τ sig) W := unscopedBufs_held d W

/-- The arrays in the open at the launch. -/
theorem launched_held (d : Dev nD) :
    (unscopedBufs d (fun b => m ((SparseCore.T d).loc b)) : Pr F) = held (T d) (ucRefs τ sig) (fun b => m (d, b)) :=
  open_held d fun b => m (d, b)

/-- What the TensorCore owes after the one call. -/
theorem owed_end (d : Dev nD) : (K (F := F)).Otc (N := 1) d 1 = 0 := (K (F := F)).Otc_end d le_rfl

set_option backward.isDefEq.respectTransparency.types false in
/-- @main on device `d`'s TensorCore. -/
theorem hmain (κ : GSem nD τ sig → ℕ) (d : Dev nD) :
    iprop((K (F := F)).ctx EH (P (atCall m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_lines, launched_held]
  iintro ⟨#Hctx, Hst, ⟨Hb, Hu, Hts, -⟩, HG⟩
  iapply (line d opsIn opsIn_sub opsIn_fresh _ _ _) $$ [Hb Hu]
  · isplitl [Hb] <;> iassumption
  rw [show after opsIn (fun b => m (d, b)) = V1 m d from rfl]
  iintro ⟨Hb, Hu⟩
  ihave Hu := (into_sc m d) $$ Hu
  icases Hu with ⟨Hsc, Hrest⟩
  rw [wp_bind]
  iapply ((K (F := F)).wp_run (D (F := F)) 𝒱 (EH := EH) (P := P (atCall m)) κ d 0)
  isplitr; · iexact Hctx
  isplitl [Hst]; · iexact Hst
  isplitl [Hsc]
  · rw [st0_eq]; iexact Hsc
  iintro ⟨Hst, Hdn⟩
  ihave Hdn := (Entails.of_eq (dn0_eq (atCall m) d)) $$ Hdn
  ihave Hu := (out_of_sc m d) $$ [Hdn Hrest]
  · isplitl [Hdn] <;> iassumption
  iapply (line d opsPad opsPad_sub opsPad_fresh _ _ _) $$ [Hb Hu]
  · isplitl [Hb] <;> iassumption
  rw [show after opsPad (V2 m d) = V3 m d from rfl, ← open_held d (V3 m d)]
  iintro ⟨Hb, Hu⟩
  rw [wp_bind]
  unfold SparseCore.Cfg.tcSt
  icases Hst with ⟨HO, Hst⟩
  ihave #Hlev := ((K (F := F)).ctx_levAts κ) $$ Hctx
  iapply (region (atRegion m) d)
  isplitr [Hb Hu HO HG]
  · rw [show leaves (atRegion m) d = (fun b => V4 m d (Proc.devRef .tc b)) from funext (V4_leaves m d), open_held d (V4 m d),
      ← bind_pure (seq opsOut)]
    iintro ⟨Hb, Hu, HO⟩
    iapply (line d opsOut opsOut_sub opsOut_fresh _ _ _) $$ [Hb Hu]
    · isplitl [Hb] <;> iassumption
    rw [show after opsOut (V4 m d) = V5 m d from rfl]
    iintro ⟨Hb, Hu⟩
    rw [wp_pure]
    imodintro
    isplitl [HO Hst]
    · isplitl [HO]
      · rw [owed_end]; iexact HO
      iexact Hst
    isplitl [Hu]; · iexact Hu
    isplitl [Hb] <;> iassumption
  isplitl [Hb]; · iexact Hb
  isplitl [Hu]; · iexact Hu
  isplitl [HO]
  · rw [show (K (F := F)).Otc (N := 1) d ((0 : Fin 1).val + 1) = 0 from owed_end d]; iexact HO
  isplitr; · iexact Hlev
  iexact HG

/-- What the final memory reads on a device. -/
def fq (d : Dev nD) (s' : Phys nD τ sig (Elt F)) : Prop := ∀ b : Ref sig .tc, b.isScoped = false → s'.mem.mem (ℓr d b) = V5 m d (Proc.devRef .tc b)

theorem hfin (d : Dev nD) (s' : Phys nD τ sig (Elt F)) : iprop(FIN m d ∗ SI s') ⊢ (⌜fq m d s'⌝ : Pr F) := by
  have one : ∀ b : Ref sig .tc, b.isScoped = false → (iprop(FIN m d ∗ SI s') : Pr F) ⊢ ⌜s'.mem.mem (ℓr d b) = V5 m d (Proc.devRef .tc b)⌝ := by
    intro b hb
    have hmem : Proc.devRef (τ := τ) .tc b ∈ ucRefs τ sig := Finset.mem_filter.mpr ⟨StableHlo.devRef_mem_tcRefs b, by
      rw [show (Proc.devRef (τ := τ) .tc b).isScoped = b.isScoped from rfl, hb]; exact Bool.false_ne_true⟩
    have hel : (FIN m d : Pr F) ⊢ (ℓr d b ↦{fullShare} V5 m d (Proc.devRef .tc b)) := bigSep_elim hmem
    iintro ⟨Hu, HSI⟩
    ihave Hb := hel $$ Hu
    ihave H := (SI_pointsTo_agree (st := s') (ℓ := ℓr d b) (I := Finset.univ) (q := fullShare) (f := V5 m d (Proc.devRef .tc b))) $$ [HSI Hb]
    · isplitl [HSI] <;> iassumption
    icases H with %h
    ipureintro
    exact funext fun i => h i (Finset.mem_univ i)
  refine .trans (forall_intro fun b => ?_) Laws.pure_forall.2
  exact .trans (forall_intro fun hb => one b hb) Laws.pure_forall.2

/-! ## The program's run -/

/-- What the run ends with: every array in the open at the end's contents, every semaphore at zero. -/
def QC : PUnit × MemSt nD τ sig (Elt F) → Prop := fun r =>
  (∀ (c : Dev nD) (b : Ref sig .tc), b.isScoped = false → r.2.mem (ℓr c b) = V5 m c (Proc.devRef .tc b)) ∧ r.2.sem = fun _ => 0

/-- The program runs from any launch memory whose index lists are in range. -/
theorem run_main [∀ e, Nonempty (Elt F e)] (hpre : PreOK (atCall m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (atCall m)) (A := ∅) facts v₀
    (fun q hq => match q with | 0 => nomatch hq)
    (fun q _ => match q with | 0 => tileObl (atCall m) facts hpre)
    (fun q _ => match q with | 0 => SparseCore.Cfg.VecSplit.of_plain (vecSplit (atCall m)))
    m ρ main G (FIN m) (u₀ (F := F)) (sep_elim_left.trans (hu₀ (atCall m))) (hmain m ρ) (fq m) (hfin m) (QC m) (fun _ h hz => ⟨h, hz⟩)

/-- The lists the call reads are the arguments, regrouped. -/
theorem atCall_v0 (d : Dev nD) : atCall m d main_v0 = shapeCast S128x128 (m (ℓr d main_arg0)) shapeCasts_S16384_S128x128 := by
  unfold atCall V1 opsIn; after_reads_simp; rfl
theorem atCall_v1 (d : Dev nD) : atCall m d main_v1 = shapeCast S128x128 (m (ℓr d main_arg1)) shapeCasts_S16384_S128x128 := by
  unfold atCall V1 opsIn; after_reads_simp; rfl
theorem atCall_v2 (d : Dev nD) : atCall m d main_v2 = shapeCast S128x128 (m (ℓr d main_arg2)) shapeCasts_S16384_S128x128 := by
  unfold atCall V1 opsIn; after_reads_simp; rfl

/-- Arguments in range put the lists the call reads in range. -/
theorem ok_of_lists (h : ∀ d : Dev nD, (∀ i, ((m (ℓr d main_arg0) : S16384.Idx → BitVec 32) i).toNat < 1000000)
    ∧ (∀ i, ((m (ℓr d main_arg1) : S16384.Idx → BitVec 32) i).toNat < 1000000)
    ∧ ∀ i, ((m (ℓr d main_arg2) : S16384.Idx → BitVec 32) i).toNat < 1000000) : PreOK (atCall m) := by
  intro d
  rw [atCall_v0, atCall_v1, atCall_v2]
  exact ⟨fun j => (h d).1 _, fun j => (h d).2.1 _, fun j => (h d).2.2 _⟩

/-- No argument is written. -/
theorem QC.kept {r : PUnit × MemSt nD τ sig (Elt F)} (h : QC m r) (c : Dev nD) (b : Ref sig .tc) (hb : b.isScoped = false) (hw : b ∉ written) :
    r.2.mem (ℓr c b) = m (ℓr c b) := (h.1 c b hb).trans (V5_kept m c b hw)

end Cert.Proof.ScI

end
-- ==== Proof.Ref.lean ====
/-
  The reference as lines of host operations: three row lookups, the scores of the positive pairs, the scores of the
  negative pairs, the loss. Every array ends at the operations' results over the launch contents.
-/
module

public import proofs.«01_k».proof.Proof.Gen.ReferenceIdeal
public import Idealize.ShloMosaic.Lib.StableHlo.RunRead
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The lines -/

/-- One lookup of rows: a negative index counts from the end, an index outside gives the fill. -/
def takeOps (t : TRef sig ⟨S1000000x128, .f32⟩) (i : TRef sig ⟨S16384, .i32⟩) (φ : fn_take.Bufs) : List (HloOp τ sig (Elt F)) := [
  TRef.nullary φ.c (constantI S_ 32 0#32),
  TRef.unary φ.c φ.v0 (broadcastInDim S16384 ![] bcast_S_S16384),
  TRef.binary i φ.v0 φ.v1 (cmpi .slt),
  TRef.nullary φ.c_0 (constantI S_ 32 1000000#32),
  TRef.unary φ.c_0 φ.v2 (broadcastInDim S16384 ![] bcast_S_S16384),
  TRef.binary i φ.v2 φ.v3 addi,
  TRef.ternary φ.v1 φ.v3 i φ.call0.v0 select,
  TRef.unary φ.call0.v0 φ.v5 (broadcastInDim S16384x1 ![0] bcast_S16384_S16384x1_0),
  TRef.nullary φ.c_1 (constantI S1 32 999999#32),
  TRef.nullary φ.c_2 (constantI S_ 32 0#32),
  TRef.unary φ.c_2 φ.v6 (broadcastInDim S16384x1 ![] bcast_S_S16384x1),
  TRef.binary φ.v5 φ.v6 φ.v7 (cmpi .sge),
  TRef.unary φ.c_1 φ.v8 (broadcastInDim S1x1 ![1] bcast_S1_S1x1_1),
  TRef.unary φ.v8 φ.v9 (broadcastInDim S16384x1 ![0, 1] bcast_S1x1_S16384x1_0_1),
  TRef.binary φ.v5 φ.v9 φ.v10 (cmpi .sle),
  TRef.binary φ.v7 φ.v10 φ.v11 andi,
  TRef.nullary φ.c_3 (constantI S_ 1 1#1),
  TRef.binary φ.v11 φ.c_3 φ.v12 (fun x v => Host.reduce IntOp.andi x v reducesTo_S16384x1_S16384_d1 h_S_),
  TRef.binary t φ.v5 φ.v13 (fun x i => Host.gather gather_S1000000x128_S16384x1_S16384x128_1_0_n_n_0_1_1128 x i),
  TRef.unary φ.v12 φ.v14 (broadcastInDim S16384x128 ![0] bcast_S16384_S16384x128_0),
  TRef.nullary φ.cst (constant S_ .f32 0x7FC00000#32),
  TRef.unary φ.cst φ.v15 (broadcastInDim S16384x128 ![] bcast_S_S16384x128),
  TRef.ternary φ.v14 φ.v13 φ.v15 φ.v16 select]

/-- The scores of the positive pairs. -/
def posOps : List (HloOp τ sig (Elt F)) := [
  binary main_v0 main_v1 main_v3 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
  binary main_v3 main_arg5 main_v4 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
  unary main_arg6 main_v5 (broadcastInDim S1x128 ![1] bcast_S128_S1x128_1 : (⟨S128, .f32⟩ : BufTy).Contents (Elt F) → (⟨S1x128, .f32⟩ : BufTy).Contents (Elt F)),
  unary main_v5 main_v6 (broadcastInDim S16384x128 ![0, 1] bcast_S1x128_S16384x128_0_1 : (⟨S1x128, .f32⟩ : BufTy).Contents (Elt F) → (⟨S16384x128, .f32⟩ : BufTy).Contents (Elt F)),
  binary main_v4 main_v6 main_v7 (addf : (⟨S16384x128, .f32⟩ : BufTy).Contents (Elt F) → (⟨S16384x128, .f32⟩ : BufTy).Contents (Elt F) → (⟨S16384x128, .f32⟩ : BufTy).Contents (Elt F)),
  nullary main_cst (constant S_ .f32 0x00000000#32),
  unary main_cst main_v8 (broadcastInDim S16384x128 ![] bcast_S_S16384x128 : (⟨S_, .f32⟩ : BufTy).Contents (Elt F) → (⟨S16384x128, .f32⟩ : BufTy).Contents (Elt F)),
  binary main_v7 main_v8 main_v9 (maximumf : (⟨S16384x128, .f32⟩ : BufTy).Contents (Elt F) → (⟨S16384x128, .f32⟩ : BufTy).Contents (Elt F) → (⟨S16384x128, .f32⟩ : BufTy).Contents (Elt F)),
  binary main_v9 main_arg7 main_v10 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
  unary main_arg8 main_v11 (broadcastInDim S1x64 ![1] bcast_S64_S1x64_1 : (⟨S64, .f32⟩ : BufTy).Contents (Elt F) → (⟨S1x64, .f32⟩ : BufTy).Contents (Elt F)),
  unary main_v11 main_v12 (broadcastInDim S16384x64 ![0, 1] bcast_S1x64_S16384x64_0_1 : (⟨S1x64, .f32⟩ : BufTy).Contents (Elt F) → (⟨S16384x64, .f32⟩ : BufTy).Contents (Elt F)),
  binary main_v10 main_v12 main_v13 (addf : (⟨S16384x64, .f32⟩ : BufTy).Contents (Elt F) → (⟨S16384x64, .f32⟩ : BufTy).Contents (Elt F) → (⟨S16384x64, .f32⟩ : BufTy).Contents (Elt F)),
  nullary main_cst_0 (constant S_ .f32 0x00000000#32),
  unary main_cst_0 main_v14 (broadcastInDim S16384x64 ![] bcast_S_S16384x64 : (⟨S_, .f32⟩ : BufTy).Contents (Elt F) → (⟨S16384x64, .f32⟩ : BufTy).Contents (Elt F)),
  binary main_v13 main_v14 main_v15 (maximumf : (⟨S16384x64, .f32⟩ : BufTy).Contents (Elt F) → (⟨S16384x64, .f32⟩ : BufTy).Contents (Elt F) → (⟨S16384x64, .f32⟩ : BufTy).Contents (Elt F)),
  binary main_v15 main_arg9 main_v16 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
  unary main_arg10 main_v17 (broadcastInDim S1x32 ![1] bcast_S32_S1x32_1 : (⟨S32, .f32⟩ : BufTy).Contents (Elt F) → (⟨S1x32, .f32⟩ : BufTy).Contents (Elt F)),
  unary main_v17 main_v18 (broadcastInDim S16384x32 ![0, 1] bcast_S1x32_S16384x32_0_1 : (⟨S1x32, .f32⟩ : BufTy).Contents (Elt F) → (⟨S16384x32, .f32⟩ : BufTy).Contents (Elt F)),
  binary main_v16 main_v18 main_v19 (addf : (⟨S16384x32, .f32⟩ : BufTy).Contents (Elt F) → (⟨S16384x32, .f32⟩ : BufTy).Contents (Elt F) → (⟨S16384x32, .f32⟩ : BufTy).Contents (Elt F)),
  nullary main_cst_1 (constant S_ .f32 0x00000000#32),
  unary main_cst_1 main_v20 (broadcastInDim S16384x32 ![] bcast_S_S16384x32 : (⟨S_, .f32⟩ : BufTy).Contents (Elt F) → (⟨S16384x32, .f32⟩ : BufTy).Contents (Elt F)),
  binary main_v19 main_v20 main_v21 (maximumf : (⟨S16384x32, .f32⟩ : BufTy).Contents (Elt F) → (⟨S16384x32, .f32⟩ : BufTy).Contents (Elt F) → (⟨S16384x32, .f32⟩ : BufTy).Contents (Elt F)),
  binary main_v21 main_arg11 main_v22 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
  unary main_arg12 main_v23 (broadcastInDim S1x1 ![1] bcast_S1_S1x1_1 : (⟨S1, .f32⟩ : BufTy).Contents (Elt F) → (⟨S1x1, .f32⟩ : BufTy).Contents (Elt F)),
  unary main_v23 main_v24 (broadcastInDim S16384x1 ![0, 1] bcast_S1x1_S16384x1_0_1 : (⟨S1x1, .f32⟩ : BufTy).Contents (Elt F) → (⟨S16384x1, .f32⟩ : BufTy).Contents (Elt F)),
  binary main_v22 main_v24 main_v25 (addf : (⟨S16384x1, .f32⟩ : BufTy).Contents (Elt F) → (⟨S16384x1, .f32⟩ : BufTy).Contents (Elt F) → (⟨S16384x1, .f32⟩ : BufTy).Contents (Elt F)),
  reshape main_v25 main_v26 (rfl : (.f32 : EltTy) = .f32) shapeCasts_S16384x1_S16384]

/-- The scores of the negative pairs. -/
def negOps : List (HloOp τ sig (Elt F)) := [
  binary main_v0 main_v2 main_v27 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
  binary main_v27 main_arg5 main_v28 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
  unary main_arg6 main_v29 (broadcastInDim S1x128 ![1] bcast_S128_S1x128_1 : (⟨S128, .f32⟩ : BufTy).Contents (Elt F) → (⟨S1x128, .f32⟩ : BufTy).Contents (Elt F)),
  unary main_v29 main_v30 (broadcastInDim S16384x128 ![0, 1] bcast_S1x128_S16384x128_0_1 : (⟨S1x128, .f32⟩ : BufTy).Contents (Elt F) → (⟨S16384x128, .f32⟩ : BufTy).Contents (Elt F)),
  binary main_v28 main_v30 main_v31 (addf : (⟨S16384x128, .f32⟩ : BufTy).Contents (Elt F) → (⟨S16384x128, .f32⟩ : BufTy).Contents (Elt F) → (⟨S16384x128, .f32⟩ : BufTy).Contents (Elt F)),
  nullary main_cst_2 (constant S_ .f32 0x00000000#32),
  unary main_cst_2 main_v32 (broadcastInDim S16384x128 ![] bcast_S_S16384x128 : (⟨S_, .f32⟩ : BufTy).Contents (Elt F) → (⟨S16384x128, .f32⟩ : BufTy).Contents (Elt F)),
  binary main_v31 main_v32 main_v33 (maximumf : (⟨S16384x128, .f32⟩ : BufTy).Contents (Elt F) → (⟨S16384x128, .f32⟩ : BufTy).Contents (Elt F) → (⟨S16384x128, .f32⟩ : BufTy).Contents (Elt F)),
  binary main_v33 main_arg7 main_v34 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
  unary main_arg8 main_v35 (broadcastInDim S1x64 ![1] bcast_S64_S1x64_1 : (⟨S64, .f32⟩ : BufTy).Contents (Elt F) → (⟨S1x64, .f32⟩ : BufTy).Contents (Elt F)),
  unary main_v35 main_v36 (broadcastInDim S16384x64 ![0, 1] bcast_S1x64_S16384x64_0_1 : (⟨S1x64, .f32⟩ : BufTy).Contents (Elt F) → (⟨S16384x64, .f32⟩ : BufTy).Contents (Elt F)),
  binary main_v34 main_v36 main_v37 (addf : (⟨S16384x64, .f32⟩ : BufTy).Contents (Elt F) → (⟨S16384x64, .f32⟩ : BufTy).Contents (Elt F) → (⟨S16384x64, .f32⟩ : BufTy).Contents (Elt F)),
  nullary main_cst_3 (constant S_ .f32 0x00000000#32),
  unary main_cst_3 main_v38 (broadcastInDim S16384x64 ![] bcast_S_S16384x64 : (⟨S_, .f32⟩ : BufTy).Contents (Elt F) → (⟨S16384x64, .f32⟩ : BufTy).Contents (Elt F)),
  binary main_v37 main_v38 main_v39 (maximumf : (⟨S16384x64, .f32⟩ : BufTy).Contents (Elt F) → (⟨S16384x64, .f32⟩ : BufTy).Contents (Elt F) → (⟨S16384x64, .f32⟩ : BufTy).Contents (Elt F)),
  binary main_v39 main_arg9 main_v40 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
  unary main_arg10 main_v41 (broadcastInDim S1x32 ![1] bcast_S32_S1x32_1 : (⟨S32, .f32⟩ : BufTy).Contents (Elt F) → (⟨S1x32, .f32⟩ : BufTy).Contents (Elt F)),
  unary main_v41 main_v42 (broadcastInDim S16384x32 ![0, 1] bcast_S1x32_S16384x32_0_1 : (⟨S1x32, .f32⟩ : BufTy).Contents (Elt F) → (⟨S16384x32, .f32⟩ : BufTy).Contents (Elt F)),
  binary main_v40 main_v42 main_v43 (addf : (⟨S16384x32, .f32⟩ : BufTy).Contents (Elt F) → (⟨S16384x32, .f32⟩ : BufTy).Contents (Elt F) → (⟨S16384x32, .f32⟩ : BufTy).Contents (Elt F)),
  nullary main_cst_4 (constant S_ .f32 0x00000000#32),
  unary main_cst_4 main_v44 (broadcastInDim S16384x32 ![] bcast_S_S16384x32 : (⟨S_, .f32⟩ : BufTy).Contents (Elt F) → (⟨S16384x32, .f32⟩ : BufTy).Contents (Elt F)),
  binary main_v43 main_v44 main_v45 (maximumf : (⟨S16384x32, .f32⟩ : BufTy).Contents (Elt F) → (⟨S16384x32, .f32⟩ : BufTy).Contents (Elt F) → (⟨S16384x32, .f32⟩ : BufTy).Contents (Elt F)),
  binary main_v45 main_arg11 main_v46 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
  unary main_arg12 main_v47 (broadcastInDim S1x1 ![1] bcast_S1_S1x1_1 : (⟨S1, .f32⟩ : BufTy).Contents (Elt F) → (⟨S1x1, .f32⟩ : BufTy).Contents (Elt F)),
  unary main_v47 main_v48 (broadcastInDim S16384x1 ![0, 1] bcast_S1x1_S16384x1_0_1 : (⟨S1x1, .f32⟩ : BufTy).Contents (Elt F) → (⟨S16384x1, .f32⟩ : BufTy).Contents (Elt F)),
  binary main_v46 main_v48 main_v49 (addf : (⟨S16384x1, .f32⟩ : BufTy).Contents (Elt F) → (⟨S16384x1, .f32⟩ : BufTy).Contents (Elt F) → (⟨S16384x1, .f32⟩ : BufTy).Contents (Elt F)),
  reshape main_v49 main_v50 (rfl : (.f32 : EltTy) = .f32) shapeCasts_S16384x1_S16384]

/-- The loss. -/
def lossOps : List (HloOp τ sig (Elt F)) := [
  binary main_v26 main_v50 main_v51 (subf : (⟨S16384, .f32⟩ : BufTy).Contents (Elt F) → (⟨S16384, .f32⟩ : BufTy).Contents (Elt F) → (⟨S16384, .f32⟩ : BufTy).Contents (Elt F)),
  unary main_v51 main_v52 (Host.negf : (⟨S16384, .f32⟩ : BufTy).Contents (Elt F) → (⟨S16384, .f32⟩ : BufTy).Contents (Elt F)),
  unary main_v52 main_v53 (Host.exp : (⟨S16384, .f32⟩ : BufTy).Contents (Elt F) → (⟨S16384, .f32⟩ : BufTy).Contents (Elt F)),
  nullary main_cst_5 (constant S_ .f32 0x3F800000#32),
  unary main_cst_5 main_v54 (broadcastInDim S16384 ![] bcast_S_S16384 : (⟨S_, .f32⟩ : BufTy).Contents (Elt F) → (⟨S16384, .f32⟩ : BufTy).Contents (Elt F)),
  binary main_v54 main_v53 main_v55 (addf : (⟨S16384, .f32⟩ : BufTy).Contents (Elt F) → (⟨S16384, .f32⟩ : BufTy).Contents (Elt F) → (⟨S16384, .f32⟩ : BufTy).Contents (Elt F)),
  nullary main_cst_6 (constant S_ .f32 0x3F800000#32),
  unary main_cst_6 main_v56 (broadcastInDim S16384 ![] bcast_S_S16384 : (⟨S_, .f32⟩ : BufTy).Contents (Elt F) → (⟨S16384, .f32⟩ : BufTy).Contents (Elt F)),
  binary main_v56 main_v55 main_v57 (Host.divf : (⟨S16384, .f32⟩ : BufTy).Contents (Elt F) → (⟨S16384, .f32⟩ : BufTy).Contents (Elt F) → (⟨S16384, .f32⟩ : BufTy).Contents (Elt F)),
  unary main_v57 main_v58 (Host.log : (⟨S16384, .f32⟩ : BufTy).Contents (Elt F) → (⟨S16384, .f32⟩ : BufTy).Contents (Elt F)),
  nullary main_cst_7 (constant S_ .f32 0x3FB8AA3B#32),
  unary main_cst_7 main_v59 (broadcastInDim S16384 ![] bcast_S_S16384 : (⟨S_, .f32⟩ : BufTy).Contents (Elt F) → (⟨S16384, .f32⟩ : BufTy).Contents (Elt F)),
  binary main_v58 main_v59 main_v60 (mulf : (⟨S16384, .f32⟩ : BufTy).Contents (Elt F) → (⟨S16384, .f32⟩ : BufTy).Contents (Elt F) → (⟨S16384, .f32⟩ : BufTy).Contents (Elt F)),
  nullary main_cst_8 (constant S_ .f32 0x00000000#32),
  binary main_v60 main_cst_8 main_v61 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
  unary main_v61 main_v62 (Host.negf : (⟨S_, .f32⟩ : BufTy).Contents (Elt F) → (⟨S_, .f32⟩ : BufTy).Contents (Elt F))]

/-- All of @main. -/
def allOps : List (HloOp τ sig (Elt F)) :=
  takeOps (.of main_arg3) (.of main_arg0) main_call0 ++ (takeOps (.of main_arg4) (.of main_arg1) main_call1
    ++ (takeOps (.of main_arg4) (.of main_arg2) main_call2 ++ (posOps ++ (negOps ++ lossOps))))

theorem main_eq (c : Dev nD) : main (F := F) c = seq allOps := rfl

/-- What the scores of the positive pairs write. -/
def posOuts : List (Ref sig .tc) := [main_v3, main_v4, main_v5, main_v6, main_v7, main_cst, main_v8, main_v9, main_v10, main_v11, main_v12, main_v13, main_cst_0, main_v14, main_v15, main_v16, main_v17, main_v18, main_v19, main_cst_1, main_v20, main_v21, main_v22, main_v23, main_v24, main_v25, main_v26]
/-- What the scores of the negative pairs write. -/
def negOuts : List (Ref sig .tc) := [main_v27, main_v28, main_v29, main_v30, main_v31, main_cst_2, main_v32, main_v33, main_v34, main_v35, main_v36, main_v37, main_cst_3, main_v38, main_v39, main_v40, main_v41, main_v42, main_v43, main_cst_4, main_v44, main_v45, main_v46, main_v47, main_v48, main_v49, main_v50]
/-- What the loss writes. -/
def lossOuts : List (Ref sig .tc) := [main_v51, main_v52, main_v53, main_cst_5, main_v54, main_v55, main_cst_6, main_v56, main_v57, main_v58, main_cst_7, main_v59, main_v60, main_cst_8, main_v61, main_v62]

/-- What one lookup writes. -/
def takeOuts (φ : fn_take.Bufs) : List (Ref sig .tc) := [φ.c.ref, φ.v0.ref, φ.v1.ref, φ.c_0.ref, φ.v2.ref, φ.v3.ref, φ.call0.v0.ref, φ.v5.ref, φ.c_1.ref,
  φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]
/-- Everything written. -/
def allOuts : List (Ref sig .tc) :=
  takeOuts main_call0 ++ (takeOuts main_call1 ++ (takeOuts main_call2 ++ (posOuts ++ (negOuts ++ lossOuts))))

theorem takeOps_sub (t : TRef sig ⟨S1000000x128, .f32⟩) (i : TRef sig ⟨S16384, .i32⟩) (φ : fn_take.Bufs) :
    (takeOps (F := F) t i φ).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub .., nullary_bufs_sub ..,
    unary_bufs_sub .., ternary_bufs_sub ..⟩
theorem posOps_sub : (posOps (F := F)).Forall fun op => op.bufs ⊆ tcRefs τ sig := by
  simp only [posOps, List.Forall, nullary_bufs_sub, unary_bufs_sub, binary_bufs_sub, reshape_bufs_sub, and_self]
theorem negOps_sub : (negOps (F := F)).Forall fun op => op.bufs ⊆ tcRefs τ sig := by
  simp only [negOps, List.Forall, nullary_bufs_sub, unary_bufs_sub, binary_bufs_sub, reshape_bufs_sub, and_self]
theorem lossOps_sub : (lossOps (F := F)).Forall fun op => op.bufs ⊆ tcRefs τ sig := by
  simp only [lossOps, List.Forall, nullary_bufs_sub, unary_bufs_sub, binary_bufs_sub, reshape_bufs_sub, and_self]

/-- A fact of every operation of two lines. -/
theorem forall_append {α : Type} {p : α → Prop} {a b : List α} (ha : a.Forall p) (hb : b.Forall p) : (a ++ b).Forall p := by
  rw [List.forall_iff_forall_mem] at ha hb ⊢
  exact fun x hx => (List.mem_append.mp hx).elim (ha x) (hb x)

theorem allOps_sub : (allOps (F := F)).Forall fun op => op.bufs ⊆ tcRefs τ sig :=
  forall_append (takeOps_sub _ _ _) (forall_append (takeOps_sub _ _ _) (forall_append (takeOps_sub _ _ _)
    (forall_append posOps_sub (forall_append negOps_sub lossOps_sub))))

theorem allOps_fresh : (allOps (F := F)).Forall fun op => op.fresh = ∅ :=
  forall_append (forall_fresh_of_map rfl) (forall_append (forall_fresh_of_map rfl) (forall_append (forall_fresh_of_map rfl)
    (forall_append (forall_fresh_of_map rfl) (forall_append (forall_fresh_of_map rfl) (forall_fresh_of_map rfl)))))

/-- Two lines one after the other. -/
theorem after_two (a b : List (HloOp τ sig (Elt F))) (V : Valuation τ sig (Elt F)) : after (a ++ b) V = after b (after a V) := by
  induction a generalizing V with
  | nil => rfl
  | cons op l ih => exact ih _

/-- What nothing writes keeps its contents. -/
theorem all_kept (V : Valuation τ sig (Elt F)) (r : Ref sig .tc) (h : r ∉ allOuts) : after allOps V (Proc.devRef .tc r) = V (Proc.devRef .tc r) := by
  simp only [allOuts, List.mem_append, not_or] at h
  obtain ⟨h0, h1, h2, hp, hn, hl⟩ := h
  unfold allOps
  rw [after_two, after_two, after_two, after_two, after_two,
    after_of_writes_sub lossOps _ (forall_writes_sub_of_map (W := lossOuts) rfl) hl,
    after_of_writes_sub negOps _ (forall_writes_sub_of_map (W := negOuts) rfl) hn,
    after_of_writes_sub posOps _ (forall_writes_sub_of_map (W := posOuts) rfl) hp,
    after_of_writes_sub (takeOps _ _ _) _ (forall_writes_sub_of_map (W := takeOuts main_call2) rfl) h2,
    after_of_writes_sub (takeOps _ _ _) _ (forall_writes_sub_of_map (W := takeOuts main_call1) rfl) h1,
    after_of_writes_sub (takeOps _ _ _) _ (forall_writes_sub_of_map (W := takeOuts main_call0) rfl) h0]

/-! ## The run -/

/-- Every array ends at the operations' results; there is no semaphore. -/
theorem run_main (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after allOps (launchContents m d) (Proc.devRef .tc b))
        ∧ r.2.sem = fun _ => 0 :=
  (θ_run defs _ _).mono (fun r h => ⟨h, sem_eq_zero_of_no_sems (by decide) r.2⟩)
    (run_seq (by decide) (by decide) defs main (fun _ => allOps) main_eq (fun _ => allOps_sub) m ρ
      (fun _ => List.forall_iff_forall_mem.mp allOps_fresh))

end Cert.Proof.Ref

end
-- ==== Proof.Frames.lean ====
/-
  The frames: each program runs from any launch memory in its precondition, its arguments end as they began and every
  semaphore counter ends at zero.
-/
module

public import proofs.«01_k».proof.Defs
public import proofs.«01_k».proof.Proof.Gen.Pre_in_range
public import proofs.«01_k».proof.Proof.Range
public import proofs.«01_k».proof.Proof.Run
public import proofs.«01_k».proof.Proof.RunI
public import proofs.«01_k».proof.Proof.Ref

@[expose] public section

set_option maxRecDepth 16384

noncomputable section

namespace Cert.Proof

open Idealize.ShloMosaic Idealize.SL.Sem

/-- The kernel. -/
theorem frame_kernel : Cert.quiescent_Kernel (hKernel := Cert.Kernel.Gen.facts) (hPre_in_range := Cert.Pre_in_range.Gen.facts) :=
  fun m ρ hpre => (θ_run Cert.Kernel.defs _ _).mono
    (fun r h => ⟨fun c => ⟨Sc.QC.kept m h c Cert.Kernel.main_arg0 rfl (by decide), Sc.QC.kept m h c Cert.Kernel.main_arg1 rfl (by decide),
      Sc.QC.kept m h c Cert.Kernel.main_arg2 rfl (by decide), Sc.QC.kept m h c Cert.Kernel.main_arg3 rfl (by decide),
      Sc.QC.kept m h c Cert.Kernel.main_arg4 rfl (by decide), Sc.QC.kept m h c Cert.Kernel.main_arg5 rfl (by decide),
      Sc.QC.kept m h c Cert.Kernel.main_arg6 rfl (by decide), Sc.QC.kept m h c Cert.Kernel.main_arg7 rfl (by decide),
      Sc.QC.kept m h c Cert.Kernel.main_arg8 rfl (by decide), Sc.QC.kept m h c Cert.Kernel.main_arg9 rfl (by decide),
      Sc.QC.kept m h c Cert.Kernel.main_arg10 rfl (by decide), Sc.QC.kept m h c Cert.Kernel.main_arg11 rfl (by decide),
      Sc.QC.kept m h c Cert.Kernel.main_arg12 rfl (by decide)⟩, h.2⟩)
    (Sc.run_main (F := Bits) m ρ (Sc.ok_of_lists m fun d => Range.lists_in_range _ _ _ _ _ _ _ _ _ _ _ _ _ (hpre d)))

/-- The lists of the idealized kernel's launch are in range. -/
theorem lists_ideal (m : (ℓ : Loc Cert.KernelIdeal.nD Cert.KernelIdeal.τ Cert.KernelIdeal.sig) → Buf (Elt Ideal) ℓ)
    (hpre : Cert.Pre_KernelIdeal (hPre_in_range := Cert.Pre_in_range.Gen.facts) m) : ScI.PreOK (ScI.atCall m) :=
  ScI.ok_of_lists m fun d => Range.lists_in_range _ _ _ _ _ _ _ _ _ _ _ _ _ (hpre d)

/-- The idealized kernel's run leaves its arguments as they were. -/
theorem args_ideal (m : (ℓ : Loc Cert.KernelIdeal.nD Cert.KernelIdeal.τ Cert.KernelIdeal.sig) → Buf (Elt Ideal) ℓ)
    {r : PUnit × MemSt Cert.KernelIdeal.nD Cert.KernelIdeal.τ Cert.KernelIdeal.sig (Elt Ideal)} (h : ScI.QC m r)
    (c : Dev Cert.KernelIdeal.nD) (b : Ref Cert.KernelIdeal.sig .tc)
    (hb : b ∈ [Cert.KernelIdeal.main_arg0, Cert.KernelIdeal.main_arg1, Cert.KernelIdeal.main_arg2, Cert.KernelIdeal.main_arg3,
      Cert.KernelIdeal.main_arg4, Cert.KernelIdeal.main_arg5, Cert.KernelIdeal.main_arg6, Cert.KernelIdeal.main_arg7,
      Cert.KernelIdeal.main_arg8, Cert.KernelIdeal.main_arg9, Cert.KernelIdeal.main_arg10, Cert.KernelIdeal.main_arg11,
      Cert.KernelIdeal.main_arg12]) :
    r.2.mem ((c.tc : Thread Cert.KernelIdeal.nD Cert.KernelIdeal.τ).loc b) = m ((c.tc : Thread Cert.KernelIdeal.nD Cert.KernelIdeal.τ).loc b) :=
  ScI.QC.kept m h c b (by revert b; decide) (by revert b; decide)

/-- The idealized kernel. -/
theorem frame_ideal : Cert.quiescent_KernelIdeal (hKernelIdeal := Cert.KernelIdeal.Gen.facts) (hPre_in_range := Cert.Pre_in_range.Gen.facts) :=
  fun m ρ hpre => (θ_run Cert.KernelIdeal.defs _ _).mono
    (fun r h => ⟨fun c => ⟨args_ideal m h c _ (by decide), args_ideal m h c _ (by decide), args_ideal m h c _ (by decide),
      args_ideal m h c _ (by decide), args_ideal m h c _ (by decide), args_ideal m h c _ (by decide), args_ideal m h c _ (by decide),
      args_ideal m h c _ (by decide), args_ideal m h c _ (by decide), args_ideal m h c _ (by decide), args_ideal m h c _ (by decide),
      args_ideal m h c _ (by decide), args_ideal m h c _ (by decide)⟩, h.2⟩)
    (ScI.run_main (F := Ideal) m ρ (lists_ideal m hpre))

/-- The reference's arguments are written by no operation. -/
theorem args_ref (m : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) (hb : b ∉ Ref.allOuts) :
    StableHlo.after (Ref.allOps (F := Ideal)) (StableHlo.launchContents m c) (Proc.devRef .tc b)
      = m ((c.tc : Thread Cert.ReferenceIdeal.nD Cert.ReferenceIdeal.τ).loc b) := Ref.all_kept _ b hb

/-- The reference. -/
theorem frame_ref : Cert.quiescent_ReferenceIdeal (hReferenceIdeal := Cert.ReferenceIdeal.Gen.facts) :=
  fun m ρ _ => (θ_run Cert.ReferenceIdeal.defs _ _).mono
    (fun r h => ⟨fun c => ⟨(h.1 c _).trans (args_ref m c _ (by decide)), (h.1 c _).trans (args_ref m c _ (by decide)),
      (h.1 c _).trans (args_ref m c _ (by decide)), (h.1 c _).trans (args_ref m c _ (by decide)), (h.1 c _).trans (args_ref m c _ (by decide)),
      (h.1 c _).trans (args_ref m c _ (by decide)), (h.1 c _).trans (args_ref m c _ (by decide)), (h.1 c _).trans (args_ref m c _ (by decide)),
      (h.1 c _).trans (args_ref m c _ (by decide)), (h.1 c _).trans (args_ref m c _ (by decide)), (h.1 c _).trans (args_ref m c _ (by decide)),
      (h.1 c _).trans (args_ref m c _ (by decide)), (h.1 c _).trans (args_ref m c _ (by decide))⟩, h.2⟩)
    (Ref.run_main (F := Ideal) m ρ)

/-- The same for indices in range, as the value claim wants it. -/
theorem frame_ref_range : Cert.quiescent_ReferenceIdeal_pre_in_range (hReferenceIdeal := Cert.ReferenceIdeal.Gen.facts)
    (hPre_in_range := Cert.Pre_in_range.Gen.facts) :=
  fun m ρ _ => frame_ref m ρ trivial

end Cert.Proof

end
-- ==== Proof.Maths.lean ====
/-
  The mathematics of the model, over the extended reals: one layer, the score of a pair of embedding rows, and why
  padding the weights with zeros to 128 lanes, and multiplying the two halves of the first layer apart, change nothing.
-/
module

public import Idealize.ShloMosaic.Lib.Pointwise

@[expose] public section

set_option maxRecDepth 16384

noncomputable section

namespace Cert.Proof.Val

open Idealize.ShloMosaic

/-- One layer: `max (x·w + b) 0`. -/
def layer {n k : ℕ} (w : Fin n → Fin k → EReal) (b : Fin k → EReal) (x : Fin n → EReal) (j : Fin k) : EReal :=
  max ((∑ i, x i * w i j) + b j) 0

/-- The user's row followed by the item's row. -/
def joined (u p : Fin 128 → EReal) (k : Fin 256) : EReal :=
  if h : k.val < 128 then u ⟨k.val, h⟩ else p ⟨k.val - 128, by omega⟩

/-- The score of a joined row: three layers and one weighted sum. -/
def score (w0 : Fin 256 → Fin 128 → EReal) (b0 : Fin 128 → EReal) (w1 : Fin 128 → Fin 64 → EReal) (b1 : Fin 64 → EReal)
    (w2 : Fin 64 → Fin 32 → EReal) (b2 : Fin 32 → EReal) (wp : Fin 32 → EReal) (bp : EReal) (x : Fin 256 → EReal) : EReal :=
  (∑ j, layer w2 b2 (layer w1 b1 (layer w0 b0 x)) j * wp j) + bp

/-- The first layer with its weight matrix cut in an upper and a lower half. -/
def split (wu wi : Fin 128 → Fin 128 → EReal) (b : Fin 128 → EReal) (u p : Fin 128 → EReal) (j : Fin 128) : EReal :=
  max (((∑ i, u i * wu i j) + ∑ i, p i * wi i j) + b j) 0

/-- The score as the kernel computes it, every layer 128 lanes wide. -/
def wide (wu wi : Fin 128 → Fin 128 → EReal) (b0 : Fin 128 → EReal) (w1 : Fin 128 → Fin 128 → EReal) (b1 : Fin 128 → EReal)
    (w2 : Fin 128 → Fin 128 → EReal) (b2 wp : Fin 128 → EReal) (bp : EReal) (u p : Fin 128 → EReal) : EReal :=
  (∑ j, layer w2 b2 (layer w1 b1 (split wu wi b0 u p)) j * wp j) + bp

/-- A row filled up with zeros. -/
def pad {n : ℕ} (x : Fin n → EReal) (k : Fin 128) : EReal := if h : k.val < n then x ⟨k.val, h⟩ else 0

/-- A matrix filled up with zeros. -/
def pad2 {n k : ℕ} (w : Fin n → Fin k → EReal) (i j : Fin 128) : EReal :=
  if h : i.val < n then pad (w ⟨i.val, h⟩) j else 0

theorem pad_full (x : Fin 128 → EReal) : pad x = x := by
  funext k
  simp [pad, k.isLt]

/-- A sum over 128 lanes whose lanes from `n` on are zero is the sum over the first `n`. -/
theorem sum_short {n : ℕ} (hn : n ≤ 128) (f : Fin n → EReal) :
    (∑ k : Fin 128, if h : k.val < n then f ⟨k.val, h⟩ else 0) = ∑ k, f k := by
  obtain ⟨r, hr⟩ := Nat.exists_eq_add_of_le hn
  have key : ∀ N (hN : N = n + r), (∑ k : Fin N, if h : k.val < n then f ⟨k.val, h⟩ else 0) = ∑ k, f k := by
    rintro N rfl
    rw [Fin.sum_univ_add]
    simp
  exact key 128 hr

theorem sum_pad {n : ℕ} (hn : n ≤ 128) (x y : Fin n → EReal) : (∑ k, pad x k * pad y k) = ∑ k, x k * y k := by
  rw [← sum_short hn]
  refine Finset.sum_congr rfl fun k _ => ?_
  by_cases h : k.val < n <;> simp [pad, h]

/-- A padded layer of a padded row is the padded layer. -/
theorem layer_pad {n k : ℕ} (hn : n ≤ 128) (w : Fin n → Fin k → EReal) (b : Fin k → EReal) (x : Fin n → EReal) :
    layer (pad2 w) (pad b) (pad x) = pad (layer w b x) := by
  funext j
  by_cases hj : j.val < k
  · have e : (∑ i, pad x i * pad2 w i j) = ∑ i, x i * w i ⟨j.val, hj⟩ := by
      rw [← sum_pad hn x fun i => w i ⟨j.val, hj⟩]
      refine Finset.sum_congr rfl fun i _ => ?_
      by_cases h : i.val < n <;> simp [pad, pad2, h, hj]
    simp only [layer, e]
    simp [pad, hj, layer]
  · have e : (∑ i, pad x i * pad2 w i j) = 0 := by
      refine Finset.sum_eq_zero fun i _ => ?_
      by_cases h : i.val < n <;> simp [pad, pad2, h, hj]
    simp only [layer, e]
    simp [pad, hj]

/-- The first layer on the joined row is the two halves' products added. -/
theorem split_eq (w0 : Fin 256 → Fin 128 → EReal) (b : Fin 128 → EReal) (u p : Fin 128 → EReal) :
    split (fun i j => w0 ⟨i.val, by omega⟩ j) (fun i j => w0 ⟨128 + i.val, by omega⟩ j) b u p = layer w0 b (joined u p) := by
  funext j
  have e : (∑ i, joined u p i * w0 i j)
      = (∑ i : Fin 128, u i * w0 ⟨i.val, by omega⟩ j) + ∑ i : Fin 128, p i * w0 ⟨128 + i.val, by omega⟩ j := by
    have := Fin.sum_univ_add (a := 128) (b := 128) fun i : Fin 256 => joined u p i * w0 i j
    refine this.trans ?_
    refine congrArg₂ (· + ·) (Finset.sum_congr rfl fun i _ => ?_) (Finset.sum_congr rfl fun i _ => ?_)
    · simp [joined]
      rfl
    · have e : Fin.natAdd 128 i = ⟨128 + i.val, by omega⟩ := rfl
      rw [e]
      simp [joined]
  simp only [split, layer, e]

/-- The kernel's wide score of two rows is the score of the joined row. -/
theorem wide_eq (w0 : Fin 256 → Fin 128 → EReal) (b0 : Fin 128 → EReal) (w1 : Fin 128 → Fin 64 → EReal) (b1 : Fin 64 → EReal)
    (w2 : Fin 64 → Fin 32 → EReal) (b2 : Fin 32 → EReal) (wp : Fin 32 → EReal) (bp : EReal) (u p : Fin 128 → EReal) :
    wide (fun i j => w0 ⟨i.val, by omega⟩ j) (fun i j => w0 ⟨128 + i.val, by omega⟩ j) b0 (pad2 w1) (pad b1) (pad2 w2)
      (pad b2) (pad wp) bp u p = score w0 b0 w1 b1 w2 b2 wp bp (joined u p) := by
  have h1 := layer_pad (le_refl 128) w1 b1 (layer w0 b0 (joined u p))
  rw [pad_full] at h1
  simp only [wide, score, split_eq, h1, layer_pad (by norm_num : (64 : ℕ) ≤ 128), sum_pad (by norm_num : (32 : ℕ) ≤ 128)]

end Cert.Proof.Val
-- ==== Proof.Loss.lean ====
/-
  The mathematics of the loss, over the extended reals: the kernel's form of the logarithm of the sigmoid is the plain
  one at every difference, infinite ones included; every term is at most zero, so that the blocks' negated sums add up to
  the negated whole sum.
-/
module

public import Idealize.ShloMosaic.Lib.Pointwise

@[expose] public section

set_option maxRecDepth 16384

noncomputable section

namespace Cert.Proof.Val

open Idealize.ShloMosaic

/-- The logarithm of the sigmoid, as the reference writes it. -/
def logSig (d : EReal) : EReal := Ideal.log (Ideal.div 1 (1 + Ideal.exp (-d)))

/-- The same, as the kernel writes it. -/
def softLog (d : EReal) : EReal := 0 - (max (0 - d) 0 + Ideal.log (1 + Ideal.exp (0 - max d (-d))))

/-- The factor both programs print for the change to base two. -/
def perLog : EReal := Ideal.ofBits .f32 0x3FB8AA3B#32

theorem exp_real (r : ℝ) : Ideal.exp (r : EReal) = (Real.exp r : EReal) := rfl

theorem log_real {r : ℝ} (h : 0 < r) : Ideal.log (r : EReal) = (Real.log r : EReal) := if_neg (not_le.mpr h)

theorem div_real {r : ℝ} (h : r ≠ 0) : Ideal.div 1 (r : EReal) = ((r⁻¹ : ℝ) : EReal) := by
  have h' : (r : EReal) ≠ 0 := by exact_mod_cast h
  rw [Ideal.div, if_neg h', one_mul, EReal.coe_inv]

theorem max_real (a b : ℝ) : max (a : EReal) (b : EReal) = ((max a b : ℝ) : EReal) :=
  (EReal.coe_strictMono.monotone.map_max).symm

theorem one_add_top : (1 : EReal) + ⊤ = ⊤ := EReal.add_top_of_ne_bot (EReal.coe_ne_bot 1)

/-- At a real difference: `log (1/(1+e^{-d})) = -(max (-d) 0 + log (1+e^{-|d|}))`. -/
theorem log_sigmoid (r : ℝ) :
    Real.log (1 + Real.exp (-r))⁻¹ = -(max (-r) 0 + Real.log (1 + Real.exp (-max r (-r)))) := by
  rw [Real.log_inv]
  rcases le_total 0 r with h | h
  · rw [max_eq_right (by linarith : -r ≤ 0), max_eq_left (by linarith : -r ≤ r)]
    ring
  · rw [max_eq_left (by linarith : (0 : ℝ) ≤ -r), max_eq_right (by linarith : r ≤ -r), neg_neg]
    have e : 1 + Real.exp (-r) = Real.exp (-r) * (1 + Real.exp r) := by
      rw [mul_add, ← Real.exp_add]
      simp [add_comm]
    rw [e, Real.log_mul (Real.exp_pos _).ne' (by positivity), Real.log_exp]

theorem softLog_eq (d : EReal) : softLog d = logSig d := by
  have one : (1 : EReal) = ((1 : ℝ) : EReal) := rfl
  have zero : (0 : EReal) = ((0 : ℝ) : EReal) := rfl
  have l1 : Ideal.log 1 = 0 := by rw [one, log_real one_pos, Real.log_one]; rfl
  have eb : Ideal.exp ⊥ = 0 := rfl
  have et : Ideal.exp ⊤ = ⊤ := rfl
  have d1 : Ideal.div 1 1 = 1 := by simpa using div_real (r := 1) one_ne_zero
  have dt : Ideal.div 1 ⊤ = 0 := by simp [Ideal.div]
  have l0 : Ideal.log 0 = ⊥ := if_pos le_rfl
  induction d with
  | bot =>
    simp [softLog, logSig, eb, et, l1, dt, l0, one_add_top]
  | top => simp [softLog, logSig, eb, l1, d1]
  | coe r =>
    have p : 0 < 1 + Real.exp (-r) := by positivity
    have q : 0 < 1 + Real.exp (-max r (-r)) := by positivity
    have e1 : logSig (r : EReal) = ((Real.log (1 + Real.exp (-r))⁻¹ : ℝ) : EReal) := by
      rw [logSig, ← EReal.coe_neg, exp_real, one, ← EReal.coe_add, ← one, div_real p.ne', log_real (inv_pos.mpr p)]
    have e2 : softLog (r : EReal) = ((-(max (-r) 0 + Real.log (1 + Real.exp (-max r (-r)))) : ℝ) : EReal) := by
      rw [softLog, zero_sub, zero_sub, zero_sub, ← EReal.coe_neg, max_real, ← EReal.coe_neg, exp_real, one,
        ← EReal.coe_add, log_real q, zero, max_real, ← EReal.coe_add, ← EReal.coe_neg]
    rw [e1, e2, log_sigmoid]

theorem logSig_nonpos (d : EReal) : logSig d ≤ 0 := by
  have hl : (0 : EReal) ≤ Ideal.log (1 + Ideal.exp (0 - max d (-d))) := by
    have he : ∀ x : EReal, 0 ≤ Ideal.log (1 + Ideal.exp x) := by
      intro x
      have one : (1 : EReal) = ((1 : ℝ) : EReal) := rfl
      induction x with
      | bot =>
        have eb : Ideal.exp ⊥ = 0 := rfl
        rw [eb, add_zero, one, log_real one_pos, Real.log_one]; rfl
      | top =>
        have et : Ideal.exp ⊤ = ⊤ := rfl
        rw [et, one_add_top]; exact le_top
      | coe r =>
        have p : 0 < 1 + Real.exp r := by positivity
        rw [exp_real, one, ← EReal.coe_add, log_real p]
        exact_mod_cast Real.log_nonneg (by linarith [Real.exp_pos r])
    exact he _
  rw [← softLog_eq, softLog, zero_sub]
  exact EReal.neg_le_zero.mpr (add_nonneg (le_max_right _ _) hl)

theorem perLog_nonneg : 0 ≤ perLog := by
  simp [perLog, Ideal.ofBits, Ideal.ieee, -EReal.coe_mul]

/-- One term of the loss' sum is at most zero. -/
theorem term_nonpos (d : EReal) : logSig d * perLog ≤ 0 := by
  have h := mul_nonneg (EReal.neg_nonneg.mpr (logSig_nonpos d)) perLog_nonneg
  rw [EReal.neg_mul] at h
  exact EReal.neg_nonneg.mp h

theorem neg_sum {a b : EReal} (ha : a ≤ 0) (hb : b ≤ 0) : -(a + b) = -a + -b := by
  have ta : a ≠ ⊤ := ne_top_of_le_ne_top EReal.zero_ne_top ha
  have tb : b ≠ ⊤ := ne_top_of_le_ne_top EReal.zero_ne_top hb
  rw [EReal.neg_add (.inr tb) (.inl ta), sub_eq_add_neg]

/-- One more block: the negated sum of its 2048 terms, added to the negated sum of those before it. -/
theorem block_step (f : ℕ → EReal) (hf : ∀ i, f i ≤ 0) (n : ℕ) :
    -(∑ i ∈ Finset.range (2048 * n), f i) + (0 - ∑ r : Fin 2048, f (2048 * n + r.val))
      = -(∑ i ∈ Finset.range (2048 * (n + 1)), f i) := by
  rw [show 2048 * (n + 1) = 2048 * n + 2048 from by ring, Finset.sum_range_add, zero_sub,
    ← Fin.sum_univ_eq_sum_range (fun i => f (2048 * n + i)) 2048]
  exact (neg_sum (Finset.sum_nonpos fun i _ => hf i) (Finset.sum_nonpos fun i _ => hf _)).symm

end Cert.Proof.Val
-- ==== Proof.Model.lean ====
/-
  What both programs compute, as functions of the argument arrays: a table's row for each id, the score of each pair, and
  the loss of the positive and negative scores.
-/
module

public import proofs.«01_k».proof.Proof.Maths
public import proofs.«01_k».proof.Proof.Loss
public import Idealize.ShloMosaic.Lib.Pointwise

@[expose] public section

set_option maxRecDepth 16384

noncomputable section

namespace Cert.Proof.Val

open Idealize.ShloMosaic

/-- A matrix as a function of its two coordinates, and one of its rows. -/
def mat {n k : ℕ} (w : FVec Ideal ⟨2, ![n, k]⟩ .f32) (i : Fin n) (j : Fin k) : EReal := w (ix2 i j)

/-- A vector as a function of its coordinate. -/
def vec {n : ℕ} (w : FVec Ideal ⟨1, ![n]⟩ .f32) (i : Fin n) : EReal := w (ix1 i)

/-- The weights and biases. -/
structure Params where
  w0 : FVec Ideal ⟨2, ![256, 128]⟩ .f32
  b0 : FVec Ideal ⟨1, ![128]⟩ .f32
  w1 : FVec Ideal ⟨2, ![128, 64]⟩ .f32
  b1 : FVec Ideal ⟨1, ![64]⟩ .f32
  w2 : FVec Ideal ⟨2, ![64, 32]⟩ .f32
  b2 : FVec Ideal ⟨1, ![32]⟩ .f32
  wp : FVec Ideal ⟨2, ![32, 1]⟩ .f32
  bp : FVec Ideal ⟨1, ![1]⟩ .f32

/-- A joined row's score under the given weights. -/
def Params.score (P : Params) (x : Fin 256 → EReal) : EReal :=
  Val.score (mat P.w0) (vec P.b0) (mat P.w1) (vec P.b1) (mat P.w2) (vec P.b2) (fun j => mat P.wp j 0) (vec P.bp 0) x

/-- The table's row for the `i`-th id (an id out of range, wrapped). -/
def embed (tbl : FVec Ideal ⟨2, ![1000000, 128]⟩ .f32) (ids : IVec ⟨1, ![16384]⟩ 32) (i : Fin 16384) (k : Fin 128) : EReal :=
  tbl (ix2 ⟨(ids (ix1 i)).toNat % 1000000, Nat.mod_lt _ (by decide)⟩ k)

/-- The score of the `i`-th pair of ids. -/
def pred (P : Params) (users items : FVec Ideal ⟨2, ![1000000, 128]⟩ .f32) (u p : IVec ⟨1, ![16384]⟩ 32) (i : Fin 16384) : EReal :=
  P.score (joined (embed users u i) (embed items p i))

/-- One example's term: the base-two logarithm of the sigmoid of the difference. -/
def term (pos neg : Fin 16384 → EReal) (i : Fin 16384) : EReal := logSig (pos i - neg i) * perLog

/-- The loss: the negated sum of the terms. -/
def loss (pos neg : Fin 16384 → EReal) : EReal := -∑ i, term pos neg i

/-- The terms by number, none past the last. -/
def nth (pos neg : Fin 16384 → EReal) (n : ℕ) : EReal := if h : n < 16384 then term pos neg ⟨n, h⟩ else 0

theorem nth_nonpos (pos neg : Fin 16384 → EReal) (n : ℕ) : nth pos neg n ≤ 0 := by
  unfold nth
  split
  · exact term_nonpos _
  · exact le_refl _

theorem nth_all (pos neg : Fin 16384 → EReal) : -(∑ n ∈ Finset.range 16384, nth pos neg n) = loss pos neg := by
  rw [← Fin.sum_univ_eq_sum_range, loss]
  exact congrArg _ (Finset.sum_congr rfl fun i _ => by simp [nth, i.isLt])

end Cert.Proof.Val
-- ==== Proof.Block.lean ====
/-
  What one block of the MLP kernel computes, read at a row: the wide score of the row's embeddings, and for the loss the
  sum of the block's terms taken from the value before it.
-/
module

public import proofs.«01_k».proof.Proof.MlpI
public import proofs.«01_k».proof.Proof.Model
public import Idealize.ShloMosaic.Lib.Pointwise

@[expose] public section

set_option maxRecDepth 16384

noncomputable section

namespace Cert.Proof.Val

open Cert.KernelIdeal Cert.KernelIdeal.Gen
open Idealize.ShloMosaic Idealize.ShloMosaic.TcCoe Idealize.SL.Sem
open Cert.Proof.ScI (posBlk negBlk lossBlk)

variable (u p : FVec Ideal S2048x128 .f32) (wu wi w1 w2 : FVec Ideal S128x128 .f32) (b0 b1 b2 vp : FVec Ideal S1x128 .f32)
  (bp : FVec Ideal S1x1 .f32) (r : Fin 2048)

theorem posBlk_row : posBlk (F := Ideal) u p wu wi b0 w1 b1 w2 b2 vp bp (ix2 r 0)
    = wide (mat wu) (mat wi) (mat b0 0) (mat w1) (mat b1 0) (mat w2) (mat b2 0) (mat vp 0) (bp (ix2 0 0)) (mat u r) (mat p r) := by
  pointwise [posBlk, k1_pay11, k1_pay10, k1_pay9, k1_pay8, k1_pay7, k1_pay6, k1_pay5, k1_pay3, k1_pay2]
  rfl

theorem negBlk_row : negBlk (F := Ideal) u p wu wi b0 w1 b1 w2 b2 vp bp (ix2 r 0)
    = wide (mat wu) (mat wi) (mat b0 0) (mat w1) (mat b1 0) (mat w2) (mat b2 0) (mat vp 0) (bp (ix2 0 0)) (mat u r) (mat p r) := by
  pointwise [negBlk, k1_pay12, k1_pay10, k1_pay9, k1_pay8, k1_pay4, k1_pay6, k1_pay5, k1_pay3, k1_pay2]
  rfl

theorem lossBlk_at (a b : FVec Ideal S2048x1 .f32) (acc : EReal) :
    lossBlk (F := Ideal) a b acc (ix2 0 0) = acc + (0 - ∑ r : Fin 2048, logSig (a (ix2 r 0) - b (ix2 r 0)) * perLog) := by
  simp only [← softLog_eq]
  pointwise [lossBlk, k1_pay1]
  simp only [Finset.univ_unique, Finset.sum_singleton]
  rfl

end Cert.Proof.Val
-- ==== Proof.Origin.lean ====
/-
  An array of zeros with a smaller one set at its origin: the smaller one filled up with zeros. As the host prints it, a
  scatter of one window whose start words are all zero.
-/
module

public import proofs.«01_k».proof.Proof.Maths
public import Idealize.ShloMosaic.Lib.Routing.OpsSet
public import Idealize.ShloMosaic.Lib.Routing.OpsPair
public import Idealize.ShloMosaic.Lib.Pointwise

@[expose] public section

set_option maxRecDepth 16384

noncomputable section

namespace Cert.Proof.Val

open Idealize.ShloMosaic
open Idealize.ShloMosaic.Routing (resultIdx?_eq_some scatter_set_hit scatter_set_miss)

/-- With all start words zero, every window starts at the origin. -/
theorem start_zero {s si u : Shape} (d : ScatterDims s si u) (idx : IVec si 32) (hz : ∀ i, idx i = 0#32) (k : u.Idx) (a : Fin s.rank) :
    d.start k idx a = 0 := by
  unfold ScatterDims.start
  split
  · rw [hz]; rfl
  · rfl

/-- The window lands where its own coordinates say. -/
theorem lands_zero {s si u : Shape} (d : ScatterDims s si u) (idx : IVec si 32) (hz : ∀ i, idx i = 0#32) (k : u.Idx) (y : s.Idx) :
    d.resultIdx? k idx = some y ↔ ∀ a, d.window k a = (y a).val := by
  rw [resultIdx?_eq_some]
  refine forall_congr' fun a => ?_
  rw [start_zero d idx hz]
  omega

/-- A matrix set at the origin of a matrix of zeros. -/
theorem set_matrix {si : Shape} {A B : ℕ} (d : ScatterDims ⟨2, ![128, 128]⟩ si ⟨2, ![A, B]⟩)
    (hw : ∀ (i : Fin A) (j : Fin B), d.window (ix2 i j) 0 = i.val ∧ d.window (ix2 i j) 1 = j.val) (idx : IVec si 32) (hz : ∀ i, idx i = 0#32)
    (x : FVec Ideal ⟨2, ![128, 128]⟩ .f32) (hx : ∀ i, x i = (0 : EReal)) (w : FVec Ideal ⟨2, ![A, B]⟩ .f32) (i j : Fin 128) :
    Host.scatter d (fun _ b => b) x idx w (ix2 i j) = pad2 (fun a b => w (ix2 a b)) i j := by
  have lands : ∀ a b, d.resultIdx? (ix2 a b) idx = some (ix2 i j) ↔ a.val = i.val ∧ b.val = j.val := fun a b => by
    rw [lands_zero d idx hz, Fin.forall_fin_two]
    exact Iff.of_eq (by rw [(hw a b).1, (hw a b).2]; rfl)
  by_cases h : i.val < A ∧ j.val < B
  · refine (scatter_set_hit d x idx w _ (w (ix2 ⟨i.val, h.1⟩ ⟨j.val, h.2⟩)) (fun k hk => ?_) (ix2 ⟨i.val, h.1⟩ ⟨j.val, h.2⟩) ((lands _ _).2 ⟨rfl, rfl⟩)).trans ?_
    · rw [eq_ix2 k] at hk ⊢
      have q := (lands _ _).1 hk
      rw [show k 0 = ⟨i.val, h.1⟩ from Fin.ext q.1, show k 1 = ⟨j.val, h.2⟩ from Fin.ext q.2]
      rfl
    · simp [pad2, pad, h.1, h.2]
  · refine (scatter_set_miss d x idx w _ fun k hk => ?_).trans ?_
    · rw [eq_ix2 k] at hk
      have q := (lands _ _).1 hk
      exact h ⟨q.1 ▸ (k 0).isLt, q.2 ▸ (k 1).isLt⟩
    · rw [hx]
      by_cases h' : i.val < A
      · have hj : ¬ j.val < B := fun q => h ⟨h', q⟩
        simp [pad2, pad, hj]
      · simp [pad2, h']

/-- A vector set at the origin of a row of zeros. -/
theorem set_row {si : Shape} {B : ℕ} (d : ScatterDims ⟨2, ![1, 128]⟩ si ⟨1, ![B]⟩)
    (hw : ∀ j : Fin B, d.window (ix1 j) 0 = 0 ∧ d.window (ix1 j) 1 = j.val) (idx : IVec si 32) (hz : ∀ i, idx i = 0#32)
    (x : FVec Ideal ⟨2, ![1, 128]⟩ .f32) (hx : ∀ i, x i = (0 : EReal)) (w : FVec Ideal ⟨1, ![B]⟩ .f32) (j : Fin 128) :
    Host.scatter d (fun _ b => b) x idx w (ix2 0 j) = pad (fun b => w (ix1 b)) j := by
  have lands : ∀ b, d.resultIdx? (ix1 b) idx = some (ix2 0 j) ↔ b.val = j.val := fun b => by
    rw [lands_zero d idx hz, Fin.forall_fin_two, (hw b).1, (hw b).2]
    exact ⟨fun q => q.2, fun q => ⟨rfl, q⟩⟩
  by_cases h : j.val < B
  · refine (scatter_set_hit d x idx w _ (w (ix1 ⟨j.val, h⟩)) (fun k hk => ?_) (ix1 ⟨j.val, h⟩) ((lands _).2 rfl)).trans ?_
    · rw [eq_ix1 k] at hk ⊢
      rw [show k 0 = ⟨j.val, h⟩ from Fin.ext ((lands _).1 hk)]
      rfl
    · simp [pad, h]
  · refine (scatter_set_miss d x idx w _ fun k hk => ?_).trans ?_
    · rw [eq_ix1 k] at hk
      exact h ((lands _).1 hk ▸ (k 0).isLt)
    · rw [hx]
      simp [pad, h]

end Cert.Proof.Val
-- ==== Proof.Weights.lean ====
/-
  The arrays the MLP kernel finds: the gathered rows, the first layer's two halves, and every later weight and bias as
  the argument filled up with zeros.
-/
module

public import proofs.«01_k».proof.Proof.RunI
public import proofs.«01_k».proof.Proof.Block
public import proofs.«01_k».proof.Proof.Origin
public import Idealize.ShloMosaic.Lib.StableHlo.RunRead

@[expose] public section

set_option maxRecDepth 16384

noncomputable section

namespace Cert.Proof.Val

open Cert.KernelIdeal Cert.KernelIdeal.Gen
open Idealize.ShloMosaic Idealize.ShloMosaic.TcCoe Idealize.SL.Sem
open Idealize.ShloMosaic.StableHlo (after)
open Cert.Proof.ScI

variable (m : (ℓ : Loc nD τ sig) → Buf (Elt Ideal) ℓ) (d : Dev nD)

/-- An argument, as memory holds it at the launch. -/
abbrev arg (b : Ref sig .tc) : Buf (Elt Ideal) (ℓr d b) := m (ℓr d b)

/-- What nothing wrote before the region is as at the launch. -/
theorem V2_kept (r : Ref sig .tc) (h : r ∉ [main_v0, main_v1, main_v2, main_v3_0, main_v3_1, main_v3_2]) :
    V2 m d (Proc.devRef .tc r) = arg m d r := by
  simp only [List.mem_cons, List.not_mem_nil, or_false, not_or] at h
  rw [V2_ne m d r h.2.2.2.1 h.2.2.2.2.1 h.2.2.2.2.2]
  exact V1_ne m d r (by simp [outsIn, h.1, h.2.1, h.2.2.1])

theorem rows_user : atRegion m d main_v3_0 = look (arg m d main_arg3) (atCall m d main_v0) :=
  (V3_ne m d main_v3_0 (by decide)).trans ((V2_v3_0 m d).trans
    (congrArg (fun t => look t (atCall m d main_v0)) (V1_ne m d main_arg3 (by decide))))
theorem rows_pos : atRegion m d main_v3_1 = look (arg m d main_arg4) (atCall m d main_v1) :=
  (V3_ne m d main_v3_1 (by decide)).trans ((V2_v3_1 m d).trans
    (congrArg (fun t => look t (atCall m d main_v1)) (V1_ne m d main_arg4 (by decide))))
theorem rows_neg : atRegion m d main_v3_2 = look (arg m d main_arg4) (atCall m d main_v2) :=
  (V3_ne m d main_v3_2 (by decide)).trans ((V2_v3_2 m d).trans
    (congrArg (fun t => look t (atCall m d main_v2)) (V1_ne m d main_arg4 (by decide))))

/-! ## The arrays as written -/

theorem read_v4 : atRegion m d main_v4 = extractStridedSlice S128x128 ![0, 0] (arg m d main_arg5) slices_S256x128_S128x128_0_0 := by
  rw [← V2_kept m d main_arg5 (by decide)]
  unfold atRegion V3 opsPad; after_reads_simp
theorem read_v5 : atRegion m d main_v5 = extractStridedSlice S128x128 ![128, 0] (arg m d main_arg5) slices_S256x128_S128x128_128_0 := by
  rw [← V2_kept m d main_arg5 (by decide)]
  unfold atRegion V3 opsPad; after_reads_simp
theorem read_v6 : atRegion m d main_v6 = shapeCast S1x128 (arg m d main_arg6) shapeCasts_S128_S1x128 := by
  rw [← V2_kept m d main_arg6 (by decide)]
  unfold atRegion V3 opsPad; after_reads_simp; rfl
theorem read_v31 : atRegion m d main_v31 = shapeCast S1x1 (arg m d main_arg12) shapeCasts_S1_S1x1 := by
  rw [← V2_kept m d main_arg12 (by decide)]
  unfold atRegion V3 opsPad; after_reads_simp; rfl

/-- The zeros a weight matrix, or a row, is set into, and the start words. -/
abbrev zeros2 : FVec Ideal S128x128 .f32 := broadcastInDim S128x128 ![] bcast_S_S128x128 (constant (F := Ideal) S_ .f32 0x00000000#32)
abbrev zerosRow : FVec Ideal S1x128 .f32 := broadcastInDim S1x128 ![] bcast_S_S1x128 (constant (F := Ideal) S_ .f32 0x00000000#32)
abbrev start1 : IVec S1 32 := broadcastInDim S1 ![] bcast_S_S1 (constantI S_ 32 0#32)
abbrev start2 : IVec S2 32 := concatenate S2 0 [⟨S1, start1⟩, ⟨S1, start1⟩] concatenates_S1_S1_S2_d0

theorem read_v9 : atRegion m d main_v9
    = Host.scatter scatter_S128x128_S1_S128x64_01_n_1_0 (fun _ b => b) zeros2 start1 (arg m d main_arg7) := by
  rw [← V2_kept m d main_arg7 (by decide)]
  unfold atRegion V3 opsPad; after_reads_simp
theorem read_v14 : atRegion m d main_v14
    = Host.scatter scatter_S1x128_S2_S64_0_0_01_0 (fun _ b => b) zerosRow start2 (arg m d main_arg8) := by
  rw [← V2_kept m d main_arg8 (by decide)]
  unfold atRegion V3 opsPad; after_reads_simp; rfl
theorem read_v19 : atRegion m d main_v19
    = Host.scatter scatter_S128x128_S2_S64x32_01_n_01_0 (fun _ b => b) zeros2 start2 (arg m d main_arg9) := by
  rw [← V2_kept m d main_arg9 (by decide)]
  unfold atRegion V3 opsPad; after_reads_simp; rfl
theorem read_v24 : atRegion m d main_v24
    = Host.scatter scatter_S1x128_S2_S32_0_0_01_0 (fun _ b => b) zerosRow start2 (arg m d main_arg10) := by
  rw [← V2_kept m d main_arg10 (by decide)]
  unfold atRegion V3 opsPad; after_reads_simp; rfl
theorem read_v30 : atRegion m d main_v30
    = Host.scatter scatter_S1x128_S2_S32_0_0_01_0 (fun _ b => b) zerosRow start2 (shapeCast S32 (arg m d main_arg11) shapeCasts_S32x1_S32) := by
  rw [← V2_kept m d main_arg11 (by decide)]
  unfold atRegion V3 opsPad; after_reads_simp; rfl

/-! ## The arrays at an index -/

theorem zeros2_at (i : S128x128.Idx) : zeros2 i = (0 : EReal) := by
  idx_vars i
  pointwise
theorem zerosRow_at (i : S1x128.Idx) : zerosRow i = (0 : EReal) := by
  idx_vars i
  pointwise
theorem start1_at (i : S1.Idx) : start1 i = 0#32 := by
  idx_vars i
  pointwise
theorem start2_at (i : S2.Idx) : start2 i = 0#32 := by
  idx_vars i
  pointwise
  split <;> rfl

theorem mat_v4 : mat (atRegion m d main_v4) = fun i j => mat (n := 256) (arg m d main_arg5) ⟨i.val, by omega⟩ j := by
  funext i j
  rw [read_v4]
  unfold mat
  pointwise
theorem mat_v5 : mat (atRegion m d main_v5) = fun i j => mat (n := 256) (arg m d main_arg5) ⟨128 + i.val, by omega⟩ j := by
  funext i j
  rw [read_v5]
  unfold mat
  pointwise
theorem mat_v6 : mat (atRegion m d main_v6) 0 = fun j => (arg m d main_arg6 : FVec Ideal S128 .f32) (ix1 j) := by
  funext j
  rw [read_v6]
  unfold mat
  pointwise
theorem bias_v31 : (atRegion m d main_v31 : FVec Ideal S1x1 .f32) (ix2 0 0) = (arg m d main_arg12 : FVec Ideal S1 .f32) (ix1 0) := by
  rw [read_v31]
  pointwise

theorem mat_v9 : mat (atRegion m d main_v9) = pad2 (mat (n := 128) (k := 64) (arg m d main_arg7)) := by
  funext i j
  rw [read_v9]
  exact set_matrix _ (fun _ _ => ⟨rfl, rfl⟩) _ start1_at _ zeros2_at _ i j
theorem mat_v14 : mat (atRegion m d main_v14) 0 = pad fun b : Fin 64 => (arg m d main_arg8 : FVec Ideal S64 .f32) (ix1 b) := by
  funext j
  rw [read_v14]
  exact set_row _ (fun _ => ⟨rfl, rfl⟩) _ start2_at _ zerosRow_at _ j
theorem mat_v19 : mat (atRegion m d main_v19) = pad2 (mat (n := 64) (k := 32) (arg m d main_arg9)) := by
  funext i j
  rw [read_v19]
  exact set_matrix _ (fun _ _ => ⟨rfl, rfl⟩) _ start2_at _ zeros2_at _ i j
theorem mat_v24 : mat (atRegion m d main_v24) 0 = pad fun b : Fin 32 => (arg m d main_arg10 : FVec Ideal S32 .f32) (ix1 b) := by
  funext j
  rw [read_v24]
  exact set_row _ (fun _ => ⟨rfl, rfl⟩) _ start2_at _ zerosRow_at _ j
theorem mat_v30 : mat (atRegion m d main_v30) 0 = pad fun b : Fin 32 => mat (n := 32) (k := 1) (arg m d main_arg11) b 0 := by
  funext j
  rw [read_v30]
  refine (set_row _ (fun _ => ⟨rfl, rfl⟩) _ start2_at _ zerosRow_at _ j).trans ?_
  refine congrArg (fun f => pad f j) (funext fun b => ?_)
  unfold mat
  pointwise

end Cert.Proof.Val
-- ==== Proof.Windows.lean ====
/-
  The MLP kernel's input blocks at coordinates: block `t` of a gathered table is its rows from `2048 t` on, a weight's
  block is the weight.
-/
module

public import proofs.«01_k».proof.Proof.RegionI
public import proofs.«01_k».proof.Proof.Block
public import Idealize.ShloMosaic.Lib.Pipeline.ValueKit

@[expose] public section

set_option maxRecDepth 16384

noncomputable section

namespace Cert.Proof.Val

open Cert.KernelIdeal Cert.KernelIdeal.Gen
open Idealize.ShloMosaic Idealize.ShloMosaic.TcCoe Idealize.SL.Sem
open Cert.Proof.ScI

variable (A : Arr Ideal) (c : Dev nD) (t : Fin cfg1.N)

/-- Row `r` of block `t`. -/
def row (t : Fin cfg1.N) (r : Fin 2048) : Fin 16384 :=
  ⟨2048 * t.val + r.val, by have h : t.val < 8 := lt_of_lt_of_eq t.isLt N_1; omega⟩

/-- The block every window takes at a point. -/
theorem places : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![0, 0]
    ∧ win1_12.index t = ![t.val, 0] ∧ win1_13.index t = ![t.val, 0] := by decide +kernel

theorem blk_user (r : Fin 2048) : mat (n := 2048) (k := 128) (iblk A c 0 t) r = mat (n := 16384) (A c main_v3_0) (row t r) := by
  funext k
  unfold mat
  blk_ext [iblk, row, places t]
theorem blk_pos (r : Fin 2048) : mat (n := 2048) (k := 128) (iblk A c 1 t) r = mat (n := 16384) (A c main_v3_1) (row t r) := by
  funext k
  unfold mat
  blk_ext [iblk, row, places t]
theorem blk_neg (r : Fin 2048) : mat (n := 2048) (k := 128) (iblk A c 2 t) r = mat (n := 16384) (A c main_v3_2) (row t r) := by
  funext k
  unfold mat
  blk_ext [iblk, row, places t]

theorem blk_w3 : (iblk A c 3 t : FVec Ideal S128x128 .f32) = A c main_v4 := by funext i; blk_ext [iblk, places t]
theorem blk_w4 : (iblk A c 4 t : FVec Ideal S128x128 .f32) = A c main_v5 := by funext i; blk_ext [iblk, places t]
theorem blk_w5 : (iblk A c 5 t : FVec Ideal S1x128 .f32) = A c main_v6 := by funext i; blk_ext [iblk, places t]
theorem blk_w6 : (iblk A c 6 t : FVec Ideal S128x128 .f32) = A c main_v9 := by funext i; blk_ext [iblk, places t]
theorem blk_w7 : (iblk A c 7 t : FVec Ideal S1x128 .f32) = A c main_v14 := by funext i; blk_ext [iblk, places t]
theorem blk_w8 : (iblk A c 8 t : FVec Ideal S128x128 .f32) = A c main_v19 := by funext i; blk_ext [iblk, places t]
theorem blk_w9 : (iblk A c 9 t : FVec Ideal S1x128 .f32) = A c main_v24 := by funext i; blk_ext [iblk, places t]
theorem blk_w10 : (iblk A c 10 t : FVec Ideal S1x128 .f32) = A c main_v30 := by funext i; blk_ext [iblk, places t]
theorem blk_w11 : (iblk A c 11 t : FVec Ideal S1x1 .f32) = A c main_v31 := by funext i; blk_ext [iblk, places t]

end Cert.Proof.Val
-- ==== Proof.Result.lean ====
/-
  The kernel's three results as functions of its arguments: the scores of the positive and of the negative pairs, and
  the loss.
-/
module

public import proofs.«01_k».proof.Proof.Weights
public import proofs.«01_k».proof.Proof.Windows

@[expose] public section

set_option maxRecDepth 16384

noncomputable section

namespace Cert.Proof.Val

open Cert.KernelIdeal Cert.KernelIdeal.Gen
open Idealize.ShloMosaic Idealize.ShloMosaic.TcCoe Idealize.SL.Sem
open Idealize.ShloMosaic.StableHlo (after)
open Cert.Proof.ScI

variable (m : (ℓ : Loc nD τ sig) → Buf (Elt Ideal) ℓ) (d : Dev nD)

/-- The weights and biases of the launch. -/
def params : Params where
  w0 := arg m d main_arg5
  b0 := arg m d main_arg6
  w1 := arg m d main_arg7
  b1 := arg m d main_arg8
  w2 := arg m d main_arg9
  b2 := arg m d main_arg10
  wp := arg m d main_arg11
  bp := arg m d main_arg12

/-- The scores of the positive pairs, and of the negative ones. -/
def posOf : Fin 16384 → EReal := pred (params m d) (arg m d main_arg3) (arg m d main_arg4) (arg m d main_arg0) (arg m d main_arg1)
def negOf : Fin 16384 → EReal := pred (params m d) (arg m d main_arg3) (arg m d main_arg4) (arg m d main_arg0) (arg m d main_arg2)

/-! ## The gathered rows -/

/-- The lookup through ids laid out as 128 rows of 128 is the lookup through the list. -/
theorem look_row (tbl : S1000000x128.Idx → Elt Ideal .f32) (ids : S16384.Idx → BitVec 32) (i : Fin 16384) :
    mat (n := 16384) (k := 128) (look tbl (shapeCast S128x128 ids shapeCasts_S16384_S128x128)) i = embed tbl ids i := by
  funext k
  have e : idAt (shapeCast S128x128 ids shapeCasts_S16384_S128x128) i = ids (ix1 i) := by
    unfold idAt
    pointwise
  unfold mat look embed
  exact congrArg tbl (congrArg (fun q => ix2 q k) (Fin.ext (by dsimp only; rw [← e]; rfl)))

/-! ## The scores -/

theorem wide_params (u p : Fin 128 → EReal) :
    wide (mat (atRegion m d main_v4)) (mat (atRegion m d main_v5)) (mat (atRegion m d main_v6) 0) (mat (atRegion m d main_v9))
      (mat (atRegion m d main_v14) 0) (mat (atRegion m d main_v19)) (mat (atRegion m d main_v24) 0) (mat (atRegion m d main_v30) 0)
      ((atRegion m d main_v31 : FVec Ideal S1x1 .f32) (ix2 0 0)) u p = (params m d).score (joined u p) := by
  rw [mat_v4, mat_v5, mat_v6, mat_v9, mat_v14, mat_v19, mat_v24, mat_v30, bias_v31]
  exact wide_eq _ _ _ _ _ _ _ _ u p

theorem posAt_row (t : Fin cfg1.N) (r : Fin 2048) : posAt (atRegion m) d t (ix2 r 0) = posOf m d (row t r) := by
  unfold posAt
  rw [posBlk_row, blk_user, blk_pos, blk_w3, blk_w4, blk_w5, blk_w6, blk_w7, blk_w8, blk_w9, blk_w10, blk_w11, wide_params,
    rows_user, rows_pos, atCall_v0, atCall_v1, look_row, look_row]
  rfl

theorem negAt_row (t : Fin cfg1.N) (r : Fin 2048) : negAt (atRegion m) d t (ix2 r 0) = negOf m d (row t r) := by
  unfold negAt
  rw [negBlk_row, blk_user, blk_neg, blk_w3, blk_w4, blk_w5, blk_w6, blk_w7, blk_w8, blk_w9, blk_w10, blk_w11, wide_params,
    rows_user, rows_neg, atCall_v0, atCall_v2, look_row, look_row]
  rfl

/-! ## The loss -/

theorem blk_loss (t : Fin cfg1.N) (acc : EReal) : lossBlk (F := Ideal) (posAt (atRegion m) d t) (negAt (atRegion m) d t) acc (ix2 0 0)
    = acc + (0 - ∑ r : Fin 2048, nth (posOf m d) (negOf m d) (2048 * t.val + r.val)) := by
  rw [lossBlk_at]
  refine congrArg (fun s => acc + (0 - s)) (Finset.sum_congr rfl fun r _ => ?_)
  rw [posAt_row, negAt_row]
  unfold nth
  rw [dif_pos (show 2048 * t.val + r.val < 16384 from (row t r).isLt)]
  rfl

theorem lossTo_eq : ∀ (n : ℕ) (h : n < cfg1.N), lossTo (atRegion m) d n h (ix2 0 0)
    = -(∑ i ∈ Finset.range (2048 * (n + 1)), nth (posOf m d) (negOf m d) i)
  | 0, h => by
    have e := block_step _ (nth_nonpos (posOf m d) (negOf m d)) 0
    rw [← e]
    refine (blk_loss m d ⟨0, h⟩ _).trans ?_
    refine congrArg (· + _) ?_
    pointwise
    simp
  | n + 1, h => by
    have e := block_step _ (nth_nonpos (posOf m d) (negOf m d)) (n + 1)
    rw [← e, ← lossTo_eq n (Nat.lt_of_succ_lt h)]
    exact blk_loss m d ⟨n + 1, h⟩ _

/-! ## The results -/

/-- The one index of a column's row. -/
theorem col_idx (y : S2048x1.Idx) : y = ix2 (y 0) 0 := by
  rw [eq_ix2 y]
  exact congrArg (ix2 (y 0)) (Subsingleton.elim (α := Fin 1) _ _)

theorem out_pos : (dat (atRegion m) d).arrAt 12 cfg1.N = fun x : S16384x1.Idx => posOf m d (x 0) := by
  refine (dat (atRegion m) d).arrAt_eq_of_covers 12 _ (by decide +kernel) fun t _ y => ?_
  have e : ((cfg1.win 12).blk t).view.emb y 0 = row t (y 0) := by
    refine Fin.ext ?_
    blk_simp [places t, row]
    exact congrArg (· + (y 0).val) (Nat.mul_comm _ _)
  blk_simp
  refine (congrArg (posAt (atRegion m) d t) (col_idx y)).trans ((posAt_row m d t (y 0)).trans ?_)
  exact congrArg (posOf m d) e.symm

theorem out_neg : (dat (atRegion m) d).arrAt 13 cfg1.N = fun x : S16384x1.Idx => negOf m d (x 0) := by
  refine (dat (atRegion m) d).arrAt_eq_of_covers 13 _ (by decide +kernel) fun t _ y => ?_
  have e : ((cfg1.win 13).blk t).view.emb y 0 = row t (y 0) := by
    refine Fin.ext ?_
    blk_simp [places t, row]
    exact congrArg (· + (y 0).val) (Nat.mul_comm _ _)
  blk_simp
  refine (congrArg (negAt (atRegion m) d t) (col_idx y)).trans ((negAt_row m d t (y 0)).trans ?_)
  exact congrArg (negOf m d) e.symm

theorem out_loss : (dat (atRegion m) d).arrAt 14 cfg1.N = fun _ : S1x1.Idx => loss (posOf m d) (negOf m d) := by
  refine (dat (atRegion m) d).arrAt_eq_of_after_last 14 t1_7 (by decide +kernel) _ fun j => ?_
  blk_simp
  have e : j = (ix2 0 0 : S1x1.Idx) := by
    rw [eq_ix2 j]
    exact congrArg₂ ix2 (Subsingleton.elim (α := Fin 1) _ _) (Subsingleton.elim (α := Fin 1) _ _)
  rw [e]
  refine (lossTo_eq m d 7 t1_7.isLt).trans ?_
  exact nth_all _ _

/-- The results @main returns. -/
theorem result_pos : V5 m d (Proc.devRef .tc main_v33) = fun x : S16384.Idx => posOf m d (x 0) := by
  have h : V4 m d (Proc.devRef .tc main_v32_0) = fun x : S16384x1.Idx => posOf m d (x 0) :=
    (put_fst _ _ _ _ _ _ _ (by decide) (by decide)).trans (out_pos m d)
  have e : V5 m d (Proc.devRef .tc main_v33) = shapeCast S16384 (V4 m d (Proc.devRef .tc main_v32_0)) shapeCasts_S16384x1_S16384 := by
    unfold V5 opsOut; after_reads_simp; rfl
  rw [e, h]
  funext i
  idx_vars i
  pointwise

theorem result_neg : V5 m d (Proc.devRef .tc main_v34) = fun x : S16384.Idx => negOf m d (x 0) := by
  have h : V4 m d (Proc.devRef .tc main_v32_1) = fun x : S16384x1.Idx => negOf m d (x 0) :=
    (put_snd _ _ _ _ _ _ _ (by decide)).trans (out_neg m d)
  have e : V5 m d (Proc.devRef .tc main_v34) = shapeCast S16384 (V4 m d (Proc.devRef .tc main_v32_1)) shapeCasts_S16384x1_S16384 := by
    unfold V5 opsOut; after_reads_simp; rfl
  rw [e, h]
  funext i
  idx_vars i
  pointwise

theorem result_loss : V5 m d (Proc.devRef .tc main_v35) = fun _ : S_.Idx => loss (posOf m d) (negOf m d) := by
  have h : V4 m d (Proc.devRef .tc main_v32_2) = fun _ : S1x1.Idx => loss (posOf m d) (negOf m d) :=
    (put_thd _ _ _ _ _ _ _).trans (out_loss m d)
  have e : V5 m d (Proc.devRef .tc main_v35) = shapeCast S_ (V4 m d (Proc.devRef .tc main_v32_2)) shapeCasts_S1x1_S_ := by
    unfold V5 opsOut; after_reads_simp; rfl
  rw [e, h]
  rfl

end Cert.Proof.Val
-- ==== Proof.RefTake.lean ====
/-
  The reference's row lookup at ids in range: no id counts from the end, none is outside, so each row is the table's row.
-/
module

public import proofs.«01_k».proof.Proof.Ref
public import proofs.«01_k».proof.Proof.Model
public import Idealize.ShloMosaic.Lib.Routing.Ops
public import Idealize.ShloMosaic.Lib.Routing.OpsPair
public import Idealize.ShloMosaic.Lib.Pointwise
public import Idealize.ShloMosaic.Lib.Tactic.WordOmega

@[expose] public section

set_option maxRecDepth 16384

noncomputable section

namespace Cert.Proof.Val

open Cert.ReferenceIdeal Cert.ReferenceIdeal.Gen
open Idealize.ShloMosaic Idealize.ShloMosaic.TcCoe Idealize.ShloMosaic.StableHlo Idealize.SL.Sem

/-- The ids, a negative one counted from the end, as a column. -/
def wrapped (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 1000000#32))) ids)

/-- Which of them are rows of the table. -/
def valid (ids : IVec S16384 32) : IVec S16384x1 1 :=
  andi (cmpi .sge (wrapped ids) (broadcastInDim S16384x1 ![] bcast_S_S16384x1 (constantI S_ 32 0#32)))
    (cmpi .sle (wrapped ids) (broadcastInDim S16384x1 ![0, 1] bcast_S1x1_S16384x1_0_1 (broadcastInDim S1x1 ![1] bcast_S1_S1x1_1 (constantI S1 32 999999#32))))

/-- The lookup as printed. -/
def taken (tbl : FVec Ideal S1000000x128 .f32) (ids : IVec S16384 32) : FVec Ideal S16384x128 .f32 :=
  select (broadcastInDim S16384x128 ![0] bcast_S16384_S16384x128_0
      (Host.reduce IntOp.andi (valid ids) (constantI S_ 1 1#1) reducesTo_S16384x1_S16384_d1 h_S_))
    (Host.gather gather_S1000000x128_S16384x1_S16384x128_1_0_n_n_0_1_1128 tbl (wrapped ids))
    (broadcastInDim S16384x128 ![] bcast_S_S16384x128 (constant (F := Ideal) S_ .f32 0x7FC00000#32))

theorem wrapped_at (ids : IVec S16384 32) (i : Fin 16384) (h : (ids (ix1 i)).toNat < 1000000) : wrapped ids (ix2 i 0) = ids (ix1 i) := by
  unfold wrapped
  pointwise
  exact Routing.wrap_of_lt _ _ (by omega)

theorem valid_at (ids : IVec S16384 32) (i : Fin 16384) (h : (ids (ix1 i)).toNat < 1000000) : valid ids (ix2 i 0) = 1#1 := by
  unfold valid
  pointwise
  rw [wrapped_at ids i h]
  generalize ids (ix1 i) = w at h ⊢
  word_omega

theorem taken_row (tbl : FVec Ideal S1000000x128 .f32) (ids : IVec S16384 32) (h : ∀ i, (ids i).toNat < 1000000) (i : Fin 16384) :
    mat (n := 16384) (k := 128) (taken tbl ids) i = embed tbl ids i := by
  funext k
  unfold mat taken embed
  pointwise
  have hv : (fun x : Fin 1 => valid ids (ix2 i x)) = fun _ => 1#1 := by
    funext x
    rw [Subsingleton.elim x 0]
    exact valid_at ids i (h _)
  have hl := h (ix1 i)
  have hw : wrapped ids (ix2 i 0) = BitVec.ofNat 32 ((ids (ix1 i)).toNat % 1000000) := by
    rw [wrapped_at ids i hl, Nat.mod_eq_of_lt hl, BitVec.ofNat_toNat, BitVec.setWidth_eq]
  have hg : Host.gather gather_S1000000x128_S16384x1_S16384x128_1_0_n_n_0_1_1128 tbl (wrapped ids) (ix2 i k)
      = tbl (ix2 ⟨(ids (ix1 i)).toNat % 1000000, Nat.mod_lt _ (by decide)⟩ k) :=
    Routing.gather_row _ rfl rfl rfl rfl rfl tbl (wrapped ids) i k ⟨(ids (ix1 i)).toNat % 1000000, Nat.mod_lt _ (by decide)⟩ hw (by norm_num)
  rw [hv, hg]
  rfl

end Cert.Proof.Val
-- ==== Proof.RefValue.lean ====
/-
  The reference's three results as the model's functions of its arguments.
-/
module

public import proofs.«01_k».proof.Proof.RefTake
public import Idealize.ShloMosaic.Lib.StableHlo.RunRead

@[expose] public section

set_option maxRecDepth 16384

noncomputable section

namespace Cert.Proof.Val

open Cert.ReferenceIdeal Cert.ReferenceIdeal.Gen
open Idealize.ShloMosaic Idealize.ShloMosaic.TcCoe Idealize.ShloMosaic.StableHlo Idealize.SL.Sem
open Cert.Proof.Ref

/-! ## The scores -/

/-- The scores as printed, from the two looked-up matrices. -/
def scored (P : Params) (u p : FVec Ideal S16384x128 .f32) : FVec Ideal S16384 .f32 :=
  let h0 : FVec Ideal S16384x128 .f32 := maximumf (addf (Host.dotGeneral dot_S16384x256_S256x128_S16384x128_1_0_0_1_n_n none
      (concatenate S16384x256 1 [⟨S16384x128, u⟩, ⟨S16384x128, p⟩] concatenates_S16384x128_S16384x128_S16384x256_d1) P.w0)
    (broadcastInDim S16384x128 ![0, 1] bcast_S1x128_S16384x128_0_1 (broadcastInDim S1x128 ![1] bcast_S128_S1x128_1 P.b0)))
    (broadcastInDim S16384x128 ![] bcast_S_S16384x128 (constant (F := Ideal) S_ .f32 0x00000000#32))
  let h1 : FVec Ideal S16384x64 .f32 := maximumf (addf (Host.dotGeneral dot_S16384x128_S128x64_S16384x64_1_0_0_1_n_n none h0 P.w1)
    (broadcastInDim S16384x64 ![0, 1] bcast_S1x64_S16384x64_0_1 (broadcastInDim S1x64 ![1] bcast_S64_S1x64_1 P.b1)))
    (broadcastInDim S16384x64 ![] bcast_S_S16384x64 (constant (F := Ideal) S_ .f32 0x00000000#32))
  let h2 : FVec Ideal S16384x32 .f32 := maximumf (addf (Host.dotGeneral dot_S16384x64_S64x32_S16384x32_1_0_0_1_n_n none h1 P.w2)
    (broadcastInDim S16384x32 ![0, 1] bcast_S1x32_S16384x32_0_1 (broadcastInDim S1x32 ![1] bcast_S32_S1x32_1 P.b2)))
    (broadcastInDim S16384x32 ![] bcast_S_S16384x32 (constant (F := Ideal) S_ .f32 0x00000000#32))
  shapeCast S16384 (addf (Host.dotGeneral dot_S16384x32_S32x1_S16384x1_1_0_0_1_n_n none h2 P.wp)
    (broadcastInDim S16384x1 ![0, 1] bcast_S1x1_S16384x1_0_1 (broadcastInDim S1x1 ![1] bcast_S1_S1x1_1 P.bp))) shapeCasts_S16384x1_S16384

theorem scored_at (P : Params) (u p : FVec Ideal S16384x128 .f32) (i : Fin 16384) :
    scored P u p (ix1 i) = P.score (joined (mat (n := 16384) (k := 128) u i) (mat (n := 16384) (k := 128) p i)) := by
  unfold scored
  pointwise
  rw [Params.score, score, ← split_eq]
  rfl

/-! ## The loss -/

/-- The loss as printed. -/
def lossOf (x y : FVec Ideal S16384 .f32) : FVec Ideal S_ .f32 :=
  Host.negf (Host.reduceAdd (mulf (Host.log (Host.divf (broadcastInDim S16384 ![] bcast_S_S16384 (constant (F := Ideal) S_ .f32 0x3F800000#32))
    (addf (broadcastInDim S16384 ![] bcast_S_S16384 (constant (F := Ideal) S_ .f32 0x3F800000#32)) (Host.exp (Host.negf (subf x y))))))
    (broadcastInDim S16384 ![] bcast_S_S16384 (constant (F := Ideal) S_ .f32 0x3FB8AA3B#32)))
    (constant (F := Ideal) S_ .f32 0x00000000#32) reducesTo_S16384_S_d0 h_S_)

theorem lossOf_at (x y : FVec Ideal S16384 .f32) (i : S_.Idx) :
    lossOf x y i = loss (fun i => x (ix1 i)) (fun i => y (ix1 i)) := by
  unfold lossOf
  pointwise
  rfl

/-! ## Reading the lines -/

variable (V : Valuation τ sig (Elt Ideal))

/-- The weights and biases as the arguments hold them. -/
def refParams : Params where
  w0 := V (Proc.devRef .tc main_arg5)
  b0 := V (Proc.devRef .tc main_arg6)
  w1 := V (Proc.devRef .tc main_arg7)
  b1 := V (Proc.devRef .tc main_arg8)
  w2 := V (Proc.devRef .tc main_arg9)
  b2 := V (Proc.devRef .tc main_arg10)
  wp := V (Proc.devRef .tc main_arg11)
  bp := V (Proc.devRef .tc main_arg12)

/-! A lookup names its buffers with their types; read at the printed type, each holds what it holds. -/

theorem ids0 (h1 h2 h3) (v : main_arg0.ty.Contents (Elt Ideal)) : (TRef.of (T := ⟨S16384, .i32⟩) main_arg0 h1 h2 h3).ofBuf v = v := rfl
theorem ids1 (h1 h2 h3) (v : main_arg1.ty.Contents (Elt Ideal)) : (TRef.of (T := ⟨S16384, .i32⟩) main_arg1 h1 h2 h3).ofBuf v = v := rfl
theorem ids2 (h1 h2 h3) (v : main_arg2.ty.Contents (Elt Ideal)) : (TRef.of (T := ⟨S16384, .i32⟩) main_arg2 h1 h2 h3).ofBuf v = v := rfl
theorem tbl3 (h1 h2 h3) (v : main_arg3.ty.Contents (Elt Ideal)) : (TRef.of (T := ⟨S1000000x128, .f32⟩) main_arg3 h1 h2 h3).ofBuf v = v := rfl
theorem tbl4 (h1 h2 h3) (v : main_arg4.ty.Contents (Elt Ideal)) : (TRef.of (T := ⟨S1000000x128, .f32⟩) main_arg4 h1 h2 h3).ofBuf v = v := rfl
theorem out0 (h1 h2 h3) (v : FVec Ideal S16384x128 .f32) :
    (TRef.of (T := ⟨S16384x128, .f32⟩) main_v0 h1 h2 h3).toBuf (Val := Elt Ideal) v = v := rfl
theorem out1 (h1 h2 h3) (v : FVec Ideal S16384x128 .f32) :
    (TRef.of (T := ⟨S16384x128, .f32⟩) main_v1 h1 h2 h3).toBuf (Val := Elt Ideal) v = v := rfl
theorem out2 (h1 h2 h3) (v : FVec Ideal S16384x128 .f32) :
    (TRef.of (T := ⟨S16384x128, .f32⟩) main_v2 h1 h2 h3).toBuf (Val := Elt Ideal) v = v := rfl

theorem read_take0 : after (takeOps (.of main_arg3) (.of main_arg0) main_call0) V (Proc.devRef .tc main_v0)
    = taken (V (Proc.devRef .tc main_arg3)) (V (Proc.devRef .tc main_arg0)) := by
  unfold takeOps
  after_reads_simp
  simp only [TRef.ofBuf_toBuf, ids0, tbl3]
  exact out0 _ _ _ _

theorem read_take1 : after (takeOps (.of main_arg4) (.of main_arg1) main_call1) V (Proc.devRef .tc main_v1)
    = taken (V (Proc.devRef .tc main_arg4)) (V (Proc.devRef .tc main_arg1)) := by
  unfold takeOps
  after_reads_simp
  simp only [TRef.ofBuf_toBuf, ids1, tbl4]
  exact out1 _ _ _ _

theorem read_take2 : after (takeOps (.of main_arg4) (.of main_arg2) main_call2) V (Proc.devRef .tc main_v2)
    = taken (V (Proc.devRef .tc main_arg4)) (V (Proc.devRef .tc main_arg2)) := by
  unfold takeOps
  after_reads_simp
  simp only [TRef.ofBuf_toBuf, ids2, tbl4]
  exact out2 _ _ _ _

theorem read_pos : after posOps V (Proc.devRef .tc main_v26)
    = scored (refParams V) (V (Proc.devRef .tc main_v0)) (V (Proc.devRef .tc main_v1)) := by
  unfold posOps
  after_reads_simp
  rfl

theorem read_neg : after negOps V (Proc.devRef .tc main_v50)
    = scored (refParams V) (V (Proc.devRef .tc main_v0)) (V (Proc.devRef .tc main_v2)) := by
  unfold negOps
  after_reads_simp
  rfl

theorem read_loss : after lossOps V (Proc.devRef .tc main_v62)
    = lossOf (V (Proc.devRef .tc main_v26)) (V (Proc.devRef .tc main_v50)) := by
  unfold lossOps
  after_reads_simp
  rfl

/-! ## The whole line -/

/-- The three lookups. -/
def looked : Valuation τ sig (Elt Ideal) :=
  after (takeOps (.of main_arg4) (.of main_arg2) main_call2) (after (takeOps (.of main_arg4) (.of main_arg1) main_call1)
    (after (takeOps (.of main_arg3) (.of main_arg0) main_call0) V))

theorem all_eq : after allOps V = after lossOps (after negOps (after posOps (looked V))) := by
  unfold allOps looked
  rw [after_two, after_two, after_two, after_two, after_two]

theorem kept0 (r : Ref sig .tc) (h : r ∉ takeOuts main_call0) :
    after (takeOps (F := Ideal) (.of main_arg3) (.of main_arg0) main_call0) V (Proc.devRef .tc r) = V (Proc.devRef .tc r) :=
  after_of_writes_sub (takeOps _ _ _) _ (forall_writes_sub_of_map (W := takeOuts main_call0) rfl) h
theorem kept1 (r : Ref sig .tc) (h : r ∉ takeOuts main_call1) :
    after (takeOps (F := Ideal) (.of main_arg4) (.of main_arg1) main_call1) V (Proc.devRef .tc r) = V (Proc.devRef .tc r) :=
  after_of_writes_sub (takeOps _ _ _) _ (forall_writes_sub_of_map (W := takeOuts main_call1) rfl) h
theorem kept2 (r : Ref sig .tc) (h : r ∉ takeOuts main_call2) :
    after (takeOps (F := Ideal) (.of main_arg4) (.of main_arg2) main_call2) V (Proc.devRef .tc r) = V (Proc.devRef .tc r) :=
  after_of_writes_sub (takeOps _ _ _) _ (forall_writes_sub_of_map (W := takeOuts main_call2) rfl) h
theorem kept_pos (r : Ref sig .tc) (h : r ∉ posOuts) : after (posOps (F := Ideal)) V (Proc.devRef .tc r) = V (Proc.devRef .tc r) :=
  after_of_writes_sub posOps _ (forall_writes_sub_of_map (W := posOuts) rfl) h
theorem kept_neg (r : Ref sig .tc) (h : r ∉ negOuts) : after (negOps (F := Ideal)) V (Proc.devRef .tc r) = V (Proc.devRef .tc r) :=
  after_of_writes_sub negOps _ (forall_writes_sub_of_map (W := negOuts) rfl) h
theorem kept_loss (r : Ref sig .tc) (h : r ∉ lossOuts) : after (lossOps (F := Ideal)) V (Proc.devRef .tc r) = V (Proc.devRef .tc r) :=
  after_of_writes_sub lossOps _ (forall_writes_sub_of_map (W := lossOuts) rfl) h

theorem looked_kept (r : Ref sig .tc) (h0 : r ∉ takeOuts main_call0) (h1 : r ∉ takeOuts main_call1) (h2 : r ∉ takeOuts main_call2) :
    looked V (Proc.devRef .tc r) = V (Proc.devRef .tc r) := by
  unfold looked
  rw [kept2 _ r h2, kept1 _ r h1, kept0 _ r h0]

theorem looked_v0 : looked V (Proc.devRef .tc main_v0) = taken (V (Proc.devRef .tc main_arg3)) (V (Proc.devRef .tc main_arg0)) := by
  unfold looked
  rw [kept2 _ main_v0 (by decide), kept1 _ main_v0 (by decide), read_take0]

theorem looked_v1 : looked V (Proc.devRef .tc main_v1) = taken (V (Proc.devRef .tc main_arg4)) (V (Proc.devRef .tc main_arg1)) := by
  unfold looked
  rw [kept2 _ main_v1 (by decide), read_take1, kept0 _ main_arg4 (by decide), kept0 _ main_arg1 (by decide)]

theorem looked_v2 : looked V (Proc.devRef .tc main_v2) = taken (V (Proc.devRef .tc main_arg4)) (V (Proc.devRef .tc main_arg2)) := by
  unfold looked
  rw [read_take2, kept1 _ main_arg4 (by decide), kept1 _ main_arg2 (by decide), kept0 _ main_arg4 (by decide), kept0 _ main_arg2 (by decide)]

/-- Neither the lookups nor the positive pairs' scores write a weight or a bias. -/
theorem params_looked : refParams (looked V) = refParams V := by
  unfold refParams
  congr 1 <;> exact looked_kept V _ (by decide) (by decide) (by decide)

theorem params_pos : refParams (after posOps V) = refParams V := by
  unfold refParams
  congr 1 <;> exact kept_pos V _ (by decide)

/-- The scores of the pairs of two lists of ids in range. -/
theorem scored_taken (P : Params) (users items : FVec Ideal S1000000x128 .f32) (u p : IVec S16384 32)
    (hu : ∀ i, (u i).toNat < 1000000) (hp : ∀ i, (p i).toNat < 1000000) :
    scored P (taken users u) (taken items p) = fun x : S16384.Idx => pred P users items u p (x 0) := by
  funext x
  obtain ⟨i, rfl⟩ : ∃ i : Fin 16384, x = ix1 i := ⟨x 0, eq_ix1 x⟩
  refine (scored_at _ _ _ i).trans ?_
  rw [taken_row users u hu, taken_row items p hp]
  rfl

theorem all_pos (hu : ∀ i, ((V (Proc.devRef .tc main_arg0) : IVec S16384 32) i).toNat < 1000000)
    (hp : ∀ i, ((V (Proc.devRef .tc main_arg1) : IVec S16384 32) i).toNat < 1000000) :
    after allOps V (Proc.devRef .tc main_v26) = fun x : S16384.Idx => pred (refParams V) (V (Proc.devRef .tc main_arg3))
      (V (Proc.devRef .tc main_arg4)) (V (Proc.devRef .tc main_arg0)) (V (Proc.devRef .tc main_arg1)) (x 0) := by
  rw [all_eq, kept_loss _ main_v26 (by decide), kept_neg _ main_v26 (by decide), read_pos, params_looked, looked_v0, looked_v1]
  exact scored_taken _ _ _ _ _ hu hp

theorem all_neg (hu : ∀ i, ((V (Proc.devRef .tc main_arg0) : IVec S16384 32) i).toNat < 1000000)
    (hn : ∀ i, ((V (Proc.devRef .tc main_arg2) : IVec S16384 32) i).toNat < 1000000) :
    after allOps V (Proc.devRef .tc main_v50) = fun x : S16384.Idx => pred (refParams V) (V (Proc.devRef .tc main_arg3))
      (V (Proc.devRef .tc main_arg4)) (V (Proc.devRef .tc main_arg0)) (V (Proc.devRef .tc main_arg2)) (x 0) := by
  rw [all_eq, kept_loss _ main_v50 (by decide), read_neg, params_pos, params_looked, kept_pos _ main_v0 (by decide),
    kept_pos _ main_v2 (by decide), looked_v0, looked_v2]
  exact scored_taken _ _ _ _ _ hu hn

/-- The loss, from the two lists of scores. -/
theorem all_loss (pos neg : Fin 16384 → EReal)
    (hp : after allOps V (Proc.devRef .tc main_v26) = fun x : S16384.Idx => pos (x 0))
    (hn : after allOps V (Proc.devRef .tc main_v50) = fun x : S16384.Idx => neg (x 0)) :
    after allOps V (Proc.devRef .tc main_v62) = fun _ : S_.Idx => loss pos neg := by
  rw [all_eq, kept_loss _ main_v26 (by decide)] at hp
  rw [all_eq, kept_loss _ main_v50 (by decide)] at hn
  rw [all_eq, read_loss, hp, hn]
  funext i
  exact lossOf_at _ _ i

end Cert.Proof.Val

end
-- ==== Proof.Algebraic.lean ====
/-
  The value claim: kernel and reference end with the same three results.
-/
module

public import proofs.«01_k».proof.Proof.Frames
public import proofs.«01_k».proof.Proof.Result
public import proofs.«01_k».proof.Proof.RefValue

@[expose] public section

set_option maxRecDepth 16384

noncomputable section

namespace Cert.Proof

open Idealize.ShloMosaic Idealize.SL.Sem
open Idealize.ShloMosaic.StableHlo (after launchContents)

/-- The kernel's launch memory and the reference's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- A buffer of the kernel's, and of the reference's, on one device. -/
abbrev kAt (m : KMem) (d : Dev Cert.KernelIdeal.nD) (b : Ref Cert.KernelIdeal.sig .tc) :=
  m ((d.tc : Thread Cert.KernelIdeal.nD Cert.KernelIdeal.τ).loc b)
abbrev rAt (m : RMem) (d : Dev Cert.ReferenceIdeal.nD) (b : Ref Cert.ReferenceIdeal.sig .tc) :=
  m ((d.tc : Thread Cert.ReferenceIdeal.nD Cert.ReferenceIdeal.τ).loc b)

/-- The two launches have the same arguments on a device. -/
structure Same (m : KMem) (m' : RMem) (d : Dev Cert.KernelIdeal.nD) : Prop where
  a0 : rAt m' d Cert.ReferenceIdeal.main_arg0 = kAt m d Cert.KernelIdeal.main_arg0
  a1 : rAt m' d Cert.ReferenceIdeal.main_arg1 = kAt m d Cert.KernelIdeal.main_arg1
  a2 : rAt m' d Cert.ReferenceIdeal.main_arg2 = kAt m d Cert.KernelIdeal.main_arg2
  a3 : rAt m' d Cert.ReferenceIdeal.main_arg3 = kAt m d Cert.KernelIdeal.main_arg3
  a4 : rAt m' d Cert.ReferenceIdeal.main_arg4 = kAt m d Cert.KernelIdeal.main_arg4
  a5 : rAt m' d Cert.ReferenceIdeal.main_arg5 = kAt m d Cert.KernelIdeal.main_arg5
  a6 : rAt m' d Cert.ReferenceIdeal.main_arg6 = kAt m d Cert.KernelIdeal.main_arg6
  a7 : rAt m' d Cert.ReferenceIdeal.main_arg7 = kAt m d Cert.KernelIdeal.main_arg7
  a8 : rAt m' d Cert.ReferenceIdeal.main_arg8 = kAt m d Cert.KernelIdeal.main_arg8
  a9 : rAt m' d Cert.ReferenceIdeal.main_arg9 = kAt m d Cert.KernelIdeal.main_arg9
  a10 : rAt m' d Cert.ReferenceIdeal.main_arg10 = kAt m d Cert.KernelIdeal.main_arg10
  a11 : rAt m' d Cert.ReferenceIdeal.main_arg11 = kAt m d Cert.KernelIdeal.main_arg11
  a12 : rAt m' d Cert.ReferenceIdeal.main_arg12 = kAt m d Cert.KernelIdeal.main_arg12

variable {m : KMem} {m' : RMem} {d : Dev Cert.KernelIdeal.nD}

theorem Same.params (h : Same m m' d) : Val.refParams (launchContents m' d) = Val.params m d := by
  unfold Val.refParams Val.params
  congr 1
  · exact h.a5
  · exact h.a6
  · exact h.a7
  · exact h.a8
  · exact h.a9
  · exact h.a10
  · exact h.a11
  · exact h.a12

/-- The three id lists of a device are in range. -/
structure Ids (m : KMem) (d : Dev Cert.KernelIdeal.nD) : Prop where
  u : ∀ i, ((kAt m d Cert.KernelIdeal.main_arg0 : IVec ⟨1, ![16384]⟩ 32) i).toNat < 1000000
  p : ∀ i, ((kAt m d Cert.KernelIdeal.main_arg1 : IVec ⟨1, ![16384]⟩ 32) i).toNat < 1000000
  n : ∀ i, ((kAt m d Cert.KernelIdeal.main_arg2 : IVec ⟨1, ![16384]⟩ 32) i).toNat < 1000000

theorem ids_of_pre (hpre : Cert.Pre_KernelIdeal (hPre_in_range := Cert.Pre_in_range.Gen.facts) m) (d : Dev Cert.KernelIdeal.nD) : Ids m d :=
  have h := Range.lists_in_range _ _ _ _ _ _ _ _ _ _ _ _ _ (hpre d)
  ⟨h.1, h.2.1, h.2.2⟩

theorem ref_pos (h : Same m m' d) (hi : Ids m d) :
    after Ref.allOps (launchContents m' d) (Proc.devRef .tc Cert.ReferenceIdeal.main_v26)
      = fun x : Cert.ReferenceIdeal.S16384.Idx => Val.posOf m d (x 0) := by
  have h0 : launchContents m' d (Proc.devRef .tc Cert.ReferenceIdeal.main_arg0) = kAt m d Cert.KernelIdeal.main_arg0 := h.a0
  have h1 : launchContents m' d (Proc.devRef .tc Cert.ReferenceIdeal.main_arg1) = kAt m d Cert.KernelIdeal.main_arg1 := h.a1
  have h3 : launchContents m' d (Proc.devRef .tc Cert.ReferenceIdeal.main_arg3) = kAt m d Cert.KernelIdeal.main_arg3 := h.a3
  have h4 : launchContents m' d (Proc.devRef .tc Cert.ReferenceIdeal.main_arg4) = kAt m d Cert.KernelIdeal.main_arg4 := h.a4
  rw [Val.all_pos _ (by rw [h0]; exact hi.u) (by rw [h1]; exact hi.p), h.params, h0, h1, h3, h4]
  rfl

theorem ref_neg (h : Same m m' d) (hi : Ids m d) :
    after Ref.allOps (launchContents m' d) (Proc.devRef .tc Cert.ReferenceIdeal.main_v50)
      = fun x : Cert.ReferenceIdeal.S16384.Idx => Val.negOf m d (x 0) := by
  have h0 : launchContents m' d (Proc.devRef .tc Cert.ReferenceIdeal.main_arg0) = kAt m d Cert.KernelIdeal.main_arg0 := h.a0
  have h2 : launchContents m' d (Proc.devRef .tc Cert.ReferenceIdeal.main_arg2) = kAt m d Cert.KernelIdeal.main_arg2 := h.a2
  have h3 : launchContents m' d (Proc.devRef .tc Cert.ReferenceIdeal.main_arg3) = kAt m d Cert.KernelIdeal.main_arg3 := h.a3
  have h4 : launchContents m' d (Proc.devRef .tc Cert.ReferenceIdeal.main_arg4) = kAt m d Cert.KernelIdeal.main_arg4 := h.a4
  rw [Val.all_neg _ (by rw [h0]; exact hi.u) (by rw [h2]; exact hi.n), h.params, h0, h2, h3, h4]
  rfl

theorem ref_loss (h : Same m m' d) (hi : Ids m d) :
    after Ref.allOps (launchContents m' d) (Proc.devRef .tc Cert.ReferenceIdeal.main_v62)
      = fun _ : Cert.ReferenceIdeal.S_.Idx => Val.loss (Val.posOf m d) (Val.negOf m d) :=
  Val.all_loss _ _ _ (ref_pos h hi) (ref_neg h hi)

/-- The value claim. -/
theorem same_results : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hpre hargs
  have hs : ∀ d, Same m m' d := fun d => by
    obtain ⟨h0, h1, h2, h3, h4, h5, h6, h7, h8, h9, h10, h11, h12⟩ := hargs d
    exact ⟨h0, h1, h2, h3, h4, h5, h6, h7, h8, h9, h10, h11, h12⟩
  have hi := ids_of_pre hpre
  refine ⟨fun c => fun x : Cert.KernelIdeal.S16384.Idx => Val.posOf m c (x 0), fun c => fun x : Cert.KernelIdeal.S16384.Idx => Val.negOf m c (x 0),
    fun c => fun _ : Cert.KernelIdeal.S_.Idx => Val.loss (Val.posOf m c) (Val.negOf m c), ?_, ?_⟩
  · exact (θ_run Cert.KernelIdeal.defs _ _).mono
      (fun r h c => ⟨(h.1 c _ rfl).trans (Val.result_pos m c), (h.1 c _ rfl).trans (Val.result_neg m c), (h.1 c _ rfl).trans (Val.result_loss m c),
        args_ideal m h c _ (by decide), args_ideal m h c _ (by decide), args_ideal m h c _ (by decide), args_ideal m h c _ (by decide), args_ideal m h
        c _ (by decide), args_ideal m h c _ (by decide), args_ideal m h c _ (by decide), args_ideal m h c _ (by decide), args_ideal m h c _ (by
        decide), args_ideal m h c _ (by decide), args_ideal m h c _ (by decide), args_ideal m h c _ (by decide), args_ideal m h c _ (by decide)⟩)
      (ScI.run_main (F := Ideal) m g (lists_ideal m hpre))
  · exact (θ_run Cert.ReferenceIdeal.defs _ _).mono
      (fun r h c => ⟨(h.1 c _).trans (ref_pos (hs c) (hi c)), (h.1 c _).trans (ref_neg (hs c) (hi c)), (h.1 c _).trans (ref_loss (hs c) (hi c)),
        (h.1 c _).trans (args_ref m' c _ (by decide)), (h.1 c _).trans (args_ref m' c _ (by decide)), (h.1 c _).trans (args_ref m' c _ (by decide)),
        (h.1 c _).trans (args_ref m' c _ (by decide)), (h.1 c _).trans (args_ref m' c _ (by decide)), (h.1 c _).trans (args_ref m' c _ (by decide)),
        (h.1 c _).trans (args_ref m' c _ (by decide)), (h.1 c _).trans (args_ref m' c _ (by decide)), (h.1 c _).trans (args_ref m' c _ (by decide)),
        (h.1 c _).trans (args_ref m' c _ (by decide)), (h.1 c _).trans (args_ref m' c _ (by decide)), (h.1 c _).trans (args_ref m' c _ (by decide)),
        (h.1 c _).trans (args_ref m' c _ (by decide))⟩)
      (Ref.run_main (F := Ideal) m' g')

end Cert.Proof

end
-- ==== Proof.lean ====
/-
  The proof of `Cert.Claim`: the frames and the value claim, each proved in a module under Proof/.
-/
module

public import proofs.«01_k».proof.Defs
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_kernel, frame_ideal, frame_ref, frame_ref_range, trivial, same_results⟩

end Cert.Proof

end
